-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3584 : Shape := ⟨3, ![4, 8192, 3584]⟩
abbrev S1024x3584 : Shape := ⟨2, ![1024, 3584]⟩
abbrev S4x14 : Shape := ⟨2, ![4, 14]⟩
abbrev S4x8192x1024 : Shape := ⟨3, ![4, 8192, 1024]⟩
abbrev S14x4x8192 : Shape := ⟨3, ![14, 4, 8192]⟩
abbrev S4x256x3584 : Shape := ⟨3, ![4, 256, 3584]⟩
abbrev S4x256x1024 : Shape := ⟨3, ![4, 256, 1024]⟩
abbrev S14x4x256 : Shape := ⟨3, ![14, 4, 256]⟩
abbrev S256x3584 : Shape := ⟨2, ![256, 3584]⟩
abbrev S1x1 : Shape := ⟨2, ![1, 1]⟩
abbrev S256x256 : Shape := ⟨2, ![256, 256]⟩
abbrev S256x128 : Shape := ⟨2, ![256, 128]⟩
abbrev S1x256x256 : Shape := ⟨3, ![1, 256, 256]⟩
abbrev S256 : Shape := ⟨1, ![256]⟩
abbrev S256x1 : Shape := ⟨2, ![256, 1]⟩
abbrev S128x256 : Shape := ⟨2, ![128, 256]⟩
abbrev S14x256 : Shape := ⟨2, ![14, 256]⟩
abbrev S14x1x256 : Shape := ⟨3, ![14, 1, 256]⟩
abbrev S256x1024 : Shape := ⟨2, ![256, 1024]⟩
abbrev S1x256x1024 : Shape := ⟨3, ![1, 256, 1024]⟩

abbrev nBuf : Space → Nat
  | .hbm => 6
  | .vmem => 11
  | .smem => 1
  | _ => 0

abbrev bufTy : (tb : Table) → Fin (tcTables nBuf tb) → BufTy
  | .hbm, ⟨0, _⟩ => ⟨S4x8192x3584, .bf16⟩
  | .hbm, ⟨1, _⟩ => ⟨S1024x3584, .fp8e4m3⟩
  | .hbm, ⟨2, _⟩ => ⟨S4x14, .f32⟩
  | .hbm, ⟨3, _⟩ => ⟨S4x8192x1024, .bf16⟩
  | .hbm, ⟨4, _⟩ => ⟨S4x8192x3584, .fp8e4m3⟩
  | .hbm, ⟨5, _⟩ => ⟨S14x4x8192, .f32⟩
  | .local _ .vmem, ⟨0, _⟩ => ⟨S4x256x3584, .bf16⟩
  | .local _ .vmem, ⟨1, _⟩ => ⟨S4x256x3584, .bf16⟩
  | .local _ .vmem, ⟨2, _⟩ => ⟨S1024x3584, .fp8e4m3⟩
  | .local _ .vmem, ⟨3, _⟩ => ⟨S4x256x1024, .bf16⟩
  | .local _ .vmem, ⟨4, _⟩ => ⟨S4x256x1024, .bf16⟩
  | .local _ .vmem, ⟨5, _⟩ => ⟨S4x256x3584, .fp8e4m3⟩
  | .local _ .vmem, ⟨6, _⟩ => ⟨S4x256x3584, .fp8e4m3⟩
  | .local _ .vmem, ⟨7, _⟩ => ⟨S14x4x256, .f32⟩
  | .local _ .vmem, ⟨8, _⟩ => ⟨S14x4x256, .f32⟩
  | .local _ .vmem, ⟨9, _⟩ => ⟨S1024x3584, .bf16⟩
  | .local _ .vmem, ⟨10, _⟩ => ⟨S256x3584, .bf16⟩
  | .local _ .smem, ⟨0, _⟩ => ⟨S4x14, .f32⟩
  | _, _ => ⟨S4x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S14x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x3584 : Shape := ⟨3, ![4, 8192, 3584]⟩
abbrev S1024x3584 : Shape := ⟨2, ![1024, 3584]⟩
abbrev S4x14 : Shape := ⟨2, ![4, 14]⟩
abbrev S4x8192x1024 : Shape := ⟨3, ![4, 8192, 1024]⟩
abbrev S14x4x8192 : Shape := ⟨3, ![14, 4, 8192]⟩
abbrev S4x8192x14x256 : Shape := ⟨4, ![4, 8192, 14, 256]⟩
abbrev S4x8192x14 : Shape := ⟨3, ![4, 8192, 14]⟩
abbrev S4x8192x14x1 : Shape := ⟨4, ![4, 8192, 14, 1]⟩
abbrev S32768x3584 : Shape := ⟨2, ![32768, 3584]⟩
abbrev S4x256x14x256 : Shape := ⟨4, ![4, 256, 14, 256]⟩
abbrev S4x1x14x1 : Shape := ⟨4, ![4, 1, 14, 1]⟩
abbrev S32768x1024 : Shape := ⟨2, ![32768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x3584, .bf16⟩
  | .hbm, ⟨1, _⟩ => ⟨S1024x3584, .fp8e4m3⟩
  | .hbm, ⟨2, _⟩ => ⟨S4x14, .f32⟩
  | .hbm, ⟨3, _⟩ => ⟨S4x8192x1024, .bf16⟩
  | .hbm, ⟨4, _⟩ => ⟨S4x8192x3584, .fp8e4m3⟩
  | .hbm, ⟨5, _⟩ => ⟨S14x4x8192, .f32⟩
  | .local _ .vmem, ⟨0, _⟩ => ⟨S4x8192x3584, .bf16⟩
  | .local _ .vmem, ⟨1, _⟩ => ⟨S1024x3584, .fp8e4m3⟩
  | .local _ .vmem, ⟨2, _⟩ => ⟨S4x14, .f32⟩
  | .local _ .vmem, ⟨3, _⟩ => ⟨S4x8192x1024, .bf16⟩
  | .local _ .vmem, ⟨4, _⟩ => ⟨S4x8192x3584, .fp8e4m3⟩
  | .local _ .vmem, ⟨5, _⟩ => ⟨S14x4x8192, .f32⟩
  | _, _ => ⟨S4x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14x4x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.ReferenceRun.lean ====
/- What the reference's three result arrays hold after its run: the body's payloads of the arguments. The reference has
   one point, whose blocks are the whole arrays; the statements and proofs follow the frame's, written out here because
   only the arrays themselves are wanted. Hand-written, untrusted. -/
module

public import proofs.«01_k».proof.Proof.Gen.ReferenceIdeal.Frame
public import Idealize.ShloMosaic.Lib.Pipeline.Value

@[expose] public section

set_option maxRecDepth 16384

noncomputable section

namespace Cert.ReferenceIdeal.Body

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The run's post-condition, array by array -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x8192x3584.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 3584 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x3584.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 3584 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4x14.Idx) : ((cfg0.win 2).blk t).view.emb j = j := by
  obtain ⟨e0, e1⟩ := idx_zero2 t
  funext a; apply Fin.ext
  match a with
  | ⟨0, _⟩ => show win0_2.index t (0 : Fin 2) * 4 + 1 * (j 0).val = (j 0).val; omega
  | ⟨1, _⟩ => show win0_2.index t (1 : Fin 2) * 14 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S4x8192x1024.Idx) : ((cfg0.win 3).blk t).view.emb j = j := by
  obtain ⟨e0, e1, e2⟩ := idx_zero3 t
  funext a; apply Fin.ext
  match a with
  | ⟨0, _⟩ => show win0_3.index t (0 : Fin 3) * 4 + 1 * (j 0).val = (j 0).val; omega
  | ⟨1, _⟩ => show win0_3.index t (1 : Fin 3) * 8192 + 1 * (j 1).val = (j 1).val; omega
  | ⟨2, _⟩ => show win0_3.index t (2 : Fin 3) * 1024 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x8192x3584.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 8192 + 1 * (j 1).val = (j 1).val; omega
  | ⟨2, _⟩ => show win0_4.index t (2 : Fin 3) * 3584 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S14x4x8192.Idx) : ((cfg0.win 5).blk t).view.emb j = j := by
  obtain ⟨e0, e1, e2⟩ := idx_zero5 t
  funext a; apply Fin.ext
  match a with
  | ⟨0, _⟩ => show win0_5.index t (0 : Fin 3) * 14 + 1 * (j 0).val = (j 0).val; omega
  | ⟨1, _⟩ => show win0_5.index t (1 : Fin 3) * 4 + 1 * (j 1).val = (j 1).val; omega
  | ⟨2, _⟩ => show win0_5.index t (2 : Fin 3) * 8192 + 1 * (j 2).val = (j 2).val; omega

/-! ### Output window 3: the array after the run -/

/-- What the window's array ends holding: `out0_3` applied to the argument arrays in place of the input blocks. -/
abbrev G3 (a0 : Vec F S4x8192x3584 .bf16) (a1 : Vec F S1024x3584 .fp8e4m3) (a2 : Vec F S4x14 .f32) : Vec F S4x8192x1024 .bf16 :=
  k0_pay1 (k0_pay8 a0) a1 a2

/-- A load of the whole of a block reads the block, and the one store through the whole rectangle leaves its payload. -/
theorem out3_eq (a0 : Vec F S4x8192x3584 .bf16) (a1 : Vec F S1024x3584 .fp8e4m3) (a2 : Vec F S4x14 .f32) : out0_3 (F := F) a0 a1 a2 = G3 a0 a1 a2 := by
  unfold out0_3
  rw [View.canon_unit_zero hz3, View.ld_unit_zero (S := S4x8192x3584) hz0 _ a0, View.ld_unit_zero (S := S1024x3584) hz1 _ a1, View.ld_unit_zero (S := S4x14) hz2 _ a2]

/-- Cutting the point's block out of `X` and reading `X` through the block's view give the same. -/
theorem cut3_eq (t : Fin cfg0.N) (X : Vec F S4x8192x1024 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S4x8192x1024.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks. -/
abbrev G4 (a0 : Vec F S4x8192x3584 .bf16) (a1 : Vec F S1024x3584 .fp8e4m3) (a2 : Vec F S4x14 .f32) : Vec F S4x8192x3584 .fp8e4m3 :=
  k0_pay2 (k0_pay7 a0)

/-- A load of the whole of a block reads the block, and the one store through the whole rectangle leaves its payload. -/
theorem out4_eq (a0 : Vec F S4x8192x3584 .bf16) (a1 : Vec F S1024x3584 .fp8e4m3) (a2 : Vec F S4x14 .f32) : out0_4 (F := F) a0 a1 a2 = G4 a0 a1 a2 := by
  unfold out0_4
  rw [View.canon_unit_zero hz4, View.ld_unit_zero (S := S4x8192x3584) hz0 _ a0]

/-- Cutting the point's block out of `X` and reading `X` through the block's view give the same. -/
theorem cut4_eq (t : Fin cfg0.N) (X : Vec F S4x8192x3584 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S4x8192x3584.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks. -/
abbrev G5 (a0 : Vec F S4x8192x3584 .bf16) (a1 : Vec F S1024x3584 .fp8e4m3) (a2 : Vec F S4x14 .f32) : Vec F S14x4x8192 .f32 :=
  k0_pay3 (k0_pay6 a0)

/-- A load of the whole of a block reads the block, and the one store through the whole rectangle leaves its payload. -/
theorem out5_eq (a0 : Vec F S4x8192x3584 .bf16) (a1 : Vec F S1024x3584 .fp8e4m3) (a2 : Vec F S4x14 .f32) : out0_5 (F := F) a0 a1 a2 = G5 a0 a1 a2 := by
  unfold out0_5
  rw [View.canon_unit_zero hz5, View.ld_unit_zero (S := S4x8192x3584) hz0 _ a0]

/-- Cutting the point's block out of `X` and reading `X` through the block's view give the same. -/
theorem cut5_eq (t : Fin cfg0.N) (X : Vec F S14x4x8192 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S14x4x8192.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.ReferenceIdeal.Body

end
-- ==== Proof.Body.lean ====
/- What one block of the kernel's body computes, and that the body's stores are those blocks: the 4·14 groups of 256
   columns of a point's rows are one and the same computation at different places. Hand-written, untrusted. -/
module

public import proofs.«01_k».proof.Proof.Gen.KernelIdeal.Value

@[expose] public section

set_option maxRecDepth 16384

noncomputable section

namespace Cert.KernelIdeal.Body

open Idealize.ShloMosaic Idealize.SL.Sem Cert.KernelIdeal Cert.KernelIdeal.Gen

variable {F : FTy → Type} [FloatOps F]

/-! ## One group of 256 columns -/

/-- A group's columns as a square block: row, column. -/
def square (L : Vec F S1x256x256 .bf16) : FVec F S256x256 .bf16 := k0_pay74 L
/-- Each row's word: the 16-bit pattern of its greatest magnitude. -/
def word (L : Vec F S1x256x256 .bf16) : IVec S256x1 16 := k0_pay75 L
/-- Each row's scale, a power of two. -/
def scale (L : Vec F S1x256x256 .bf16) : FVec F S256x1 .bf16 := k0_pay79 (word L) (k0_pay76 L) k0_pay77
/-- The group's 8-bit codes, with the leading axis the array has. -/
def codes (L : Vec F S1x256x256 .bf16) : FVec F S1x256x256 .fp8e4m3 :=
  k0_pay81 (square L) (word L) (k0_pay76 L) k0_pay77
/-- The group's codes times their scales. -/
def deq (L : Vec F S1x256x256 .bf16) : FVec F S256x256 .bf16 :=
  k0_pay82 (square L) (word L) (k0_pay76 L) k0_pay77
/-- The table of scales after group `g`: column `g` is the group's scales, the others as they were. -/
def column (g : ℕ) (L : Vec F S1x256x256 .bf16) (cols : FVec F S256x128 .f32) : FVec F S256x128 .f32 :=
  select (cmpi .eq (iota .tc S256x128 32 [1] iota_S256x128_d1_w32) (broadcast S256x128 (BitVec.ofNat 32 g)))
    (broadcastTo S256x128 (shapeCast S256x1 (extf .f32 (scale L) bitsLt_bf16_f32) shapeCasts_S256x1_S256x1) broadcasts_S256x1_S256x128) cols
/-- The table of scales after all the groups. -/
def columns (L : ℕ → Vec F S1x256x256 .bf16) : FVec F S256x128 .f32 :=
  [0, 1, 2, 3, 4, 5, 6, 7, 8, 9, 10, 11, 12, 13].foldl (fun cols g => column g (L g) cols) k0_pay73
/-- The scales the body stores: the table's first 14 columns as rows. -/
def scaleRows (L : ℕ → Vec F S1x256x256 .bf16) : FVec F S14x1x256 .f32 :=
  shapeCast S14x1x256 (extractStridedSlice S14x256 ![0, 0] (transpose S128x256 [1, 0] (columns L) transposes_S256x128_p1_0_S128x256)
    slices_S128x256_o0_0_S14x256) shapeCasts_S14x256_S14x1x256
/-- One block of the weight: its codes times their one scale. -/
def weight (s : Elt F .f32) (W : Vec F S256x256 .fp8e4m3) : FVec F S256x256 .bf16 := k0_pay60 s W
/-- One batch entry's rows of the product. -/
def product (X : Vec F S256x3584 .bf16) (W : Vec F S1024x3584 .bf16) : FVec F S1x256x1024 .bf16 := k0_pay216 X W

/-! ## The places -/

/-- The groups in the order the stores are listed: last made first. -/
def groups : List (Fin 14) := [13, 12, 11, 10, 9, 8, 7, 6, 5, 4, 3, 2, 1, 0]
/-- The four batch entries, last first. -/
def entries : List (Fin 4) := [3, 2, 1, 0]

theorem mem_groups (g : Fin 14) : g ∈ groups := by revert g; decide
theorem mem_entries (b : Fin 4) : b ∈ entries := by revert b; decide

theorem inbX (b : Fin 4) (g : Fin 14) : ∀ a, (![b.val, 0, 256 * g.val] : Fin 3 → Nat) a + S1x256x256.size a ≤ S4x256x3584.size a := by
  revert b g; decide
theorem inbD (g : Fin 14) : ∀ a, (![0, 256 * g.val] : Fin 2 → Nat) a + S256x256.size a ≤ S256x3584.size a := by revert g; decide
theorem inbW (b : Fin 4) (g : Fin 14) : ∀ a, (![256 * b.val, 256 * g.val] : Fin 2 → Nat) a + S256x256.size a ≤ S1024x3584.size a := by
  revert b g; decide
theorem inbS (b : Fin 4) (g : Fin 14) : ∀ a, (![b.val, g.val] : Fin 2 → Nat) a + S1x1.size a ≤ S4x14.size a := by revert b g; decide
theorem inbR (b : Fin 4) : ∀ a, (![0, b.val, 0] : Fin 3 → Nat) a + S14x1x256.size a ≤ S14x4x256.size a := by revert b; decide
theorem inbY (b : Fin 4) : ∀ a, (![b.val, 0, 0] : Fin 3 → Nat) a + S1x256x1024.size a ≤ S4x256x1024.size a := by revert b; decide

/-- Group `g` of batch entry `b` in the point's block of the input. -/
abbrev rX (b : Fin 4) (g : Fin 14) : Rect S4x256x3584 := Rect.unit ![b.val, 0, 256 * g.val] S1x256x256.size (inbX b g)
/-- Group `g` in the dequantised rows of one batch entry. -/
abbrev rD (g : Fin 14) : Rect S256x3584 := Rect.unit ![0, 256 * g.val] S256x256.size (inbD g)
/-- Block `(b, g)` of the weight. -/
abbrev rW (b : Fin 4) (g : Fin 14) : Rect S1024x3584 := Rect.unit ![256 * b.val, 256 * g.val] S256x256.size (inbW b g)
/-- The one scale of block `(b, g)` of the weight. -/
abbrev rS (b : Fin 4) (g : Fin 14) : Rect S4x14 := Rect.unit ![b.val, g.val] S1x1.size (inbS b g)
/-- Batch entry `b` in the point's block of the scales. -/
abbrev rR (b : Fin 4) : Rect S14x4x256 := Rect.unit ![0, b.val, 0] S14x1x256.size (inbR b)
/-- Batch entry `b` in the point's block of the product. -/
abbrev rY (b : Fin 4) : Rect S4x256x1024 := Rect.unit ![b.val, 0, 0] S1x256x1024.size (inbY b)

/-- Group `n` (0 if there is none) of batch entry `b`, as the body loads it from its copy of the input block. -/
def load (arg1 : Memref sig .tc .vmem S4x256x3584 .bf16) (harg1 : arg1.IsWhole) (x0 : Vec F S4x256x3584 .bf16) (b : Fin 4) (g : Fin 14) :
    Vec F S1x256x256 .bf16 := View.readAt (Elt F) arg1.view (rX b g).toLoadRect (harg1.unread x0)

/-- The dequantised rows of batch entry `b`, group by group. -/
def deqPieces (arg1 : Memref sig .tc .vmem S4x256x3584 .bf16) (harg1 : arg1.IsWhole) (x0 : Vec F S4x256x3584 .bf16) (b : Fin 4) :
    List (View.Piece (Elt F) S256x3584 .bf16) := groups.map fun g => ⟨rD g, deq (load arg1 harg1 x0 b g)⟩

/-- The batch entries whose rows are dequantised before those of `b`, last first. -/
def before : Fin 4 → List (Fin 4) := ![[], [0], [1, 0], [2, 1, 0]]

/-- The stores into the buffer of dequantised rows up to batch entry `b`'s, last first. -/
def deqStores (arg1 : Memref sig .tc .vmem S4x256x3584 .bf16) (harg1 : arg1.IsWhole) (x0 : Vec F S4x256x3584 .bf16) (b : Fin 4) :
    List (View.Piece (Elt F) S256x3584 .bf16) := deqPieces arg1 harg1 x0 b ++ (before b).flatMap (deqPieces arg1 harg1 x0)

/-- The dequantised rows of batch entry `b` as the product reads them back. -/
def deqRows (arg1 : Memref sig .tc .vmem S4x256x3584 .bf16) (harg1 : arg1.IsWhole) (arg8 : Memref sig .tc .vmem S256x3584 .bf16)
    (x0 : Vec F S4x256x3584 .bf16) (b : Fin 4) : Vec F S256x3584 .bf16 :=
  arg8.view.readCov (deqStores arg1 harg1 x0 b) (Rect.unit ![0, 0] S256x3584.size inb_S256x3584_S256x3584_0_0).toLoadRect

/-- The groups of batch entry `b` by number. -/
def loads (arg1 : Memref sig .tc .vmem S4x256x3584 .bf16) (harg1 : arg1.IsWhole) (x0 : Vec F S4x256x3584 .bf16) (b : Fin 4) (n : ℕ) :
    Vec F S1x256x256 .bf16 := load arg1 harg1 x0 b (if h : n < 14 then ⟨n, h⟩ else 0)

/-- The weight's blocks at their places, as the first point stores them. -/
def weightStores (arg2 : Memref sig .tc .vmem S1024x3584 .fp8e4m3) (harg2 : arg2.IsWhole) (arg3 : Memref sig .tc .smem S4x14 .f32) (harg3 : arg3.IsWhole)
    (x1 : Vec F S1024x3584 .fp8e4m3) (x2 : Vec F S4x14 .f32) : List (View.Piece (Elt F) S1024x3584 .bf16) :=
  entries.flatMap fun b => groups.map fun g => ⟨rW b g, weight (View.readAt (Elt F) arg3.view (rS b g).toLoadRect (harg3.unread x2) (Shape.Idx.first (by show 0 < S1x1.numel; decide)))
    (View.readAt (Elt F) arg2.view (rW b g).toLoadRect (harg2.unread x1))⟩

section A
variable (c : Dev nD) (i : grid0.Coords) (arg1 : Memref sig .tc .vmem S4x256x3584 .bf16) (harg1 : arg1.IsWhole) (arg2 : Memref sig .tc .vmem S1024x3584 .fp8e4m3) (harg2 : arg2.IsWhole) (arg3 : Memref sig .tc .smem S4x14 .f32) (harg3 : arg3.IsWhole) (arg4 : Memref sig .tc .vmem S4x256x1024 .bf16) (harg4 : arg4.IsWhole) (arg5 : Memref sig .tc .vmem S4x256x3584 .fp8e4m3) (harg5 : arg5.IsWhole) (arg6 : Memref sig .tc .vmem S14x4x256 .f32) (harg6 : arg6.IsWhole) (arg7 : Memref sig .tc .vmem S1024x3584 .bf16) (harg7 : arg7.IsWhole) (arg8 : Memref sig .tc .vmem S256x3584 .bf16) (harg8 : arg8.IsWhole) (hc0 : cond0_0 i)
  (x0 : Vec F S4x256x3584 .bf16) (x1 : Vec F S1024x3584 .fp8e4m3) (x2 : Vec F S4x14 .f32)

/-- What the first point stores into the product: one batch entry at a time, from its dequantised rows and the weight. -/
theorem product_A : (kernelRun0_A c i arg1 harg1 arg2 harg2 arg3 harg3 arg4 harg4 arg5 harg5 arg6 harg6 arg7 harg7 arg8 harg8 hc0 x0 x1 x2).1 = entries.map fun b => ⟨rY b, product (deqRows arg1 harg1 arg8 x0 b)
    (arg7.view.readCov (weightStores arg2 harg2 arg3 harg3 x1 x2) (Rect.unit ![0, 0] S1024x3584.size inb_S1024x3584_S1024x3584_0_0).toLoadRect)⟩ := rfl

/-- The codes the first point stores are the groups' codes, each at its group's place. -/
theorem codes_A : (kernelRun0_A c i arg1 harg1 arg2 harg2 arg3 harg3 arg4 harg4 arg5 harg5 arg6 harg6 arg7 harg7 arg8 harg8 hc0 x0 x1 x2).2.1 = entries.flatMap fun b => groups.map fun g => ⟨rX b g, codes (load arg1 harg1 x0 b g)⟩ := rfl

/-- The scales the first point stores: one batch entry at a time, a row per group. -/
theorem scales_A : (kernelRun0_A c i arg1 harg1 arg2 harg2 arg3 harg3 arg4 harg4 arg5 harg5 arg6 harg6 arg7 harg7 arg8 harg8 hc0 x0 x1 x2).2.2.1 = entries.map fun b => ⟨rR b, scaleRows (loads arg1 harg1 x0 b)⟩ := rfl

/-- The first point stores the dequantised weight. -/
theorem weight_A : (kernelRun0_A c i arg1 harg1 arg2 harg2 arg3 harg3 arg4 harg4 arg5 harg5 arg6 harg6 arg7 harg7 arg8 harg8 hc0 x0 x1 x2).2.2.2.1 = weightStores arg2 harg2 arg3 harg3 x1 x2 := rfl

end A

section B
variable (c : Dev nD) (i : grid0.Coords) (arg1 : Memref sig .tc .vmem S4x256x3584 .bf16) (harg1 : arg1.IsWhole) (arg2 : Memref sig .tc .vmem S1024x3584 .fp8e4m3) (harg2 : arg2.IsWhole) (arg3 : Memref sig .tc .smem S4x14 .f32) (harg3 : arg3.IsWhole) (arg4 : Memref sig .tc .vmem S4x256x1024 .bf16) (harg4 : arg4.IsWhole) (arg5 : Memref sig .tc .vmem S4x256x3584 .fp8e4m3) (harg5 : arg5.IsWhole) (arg6 : Memref sig .tc .vmem S14x4x256 .f32) (harg6 : arg6.IsWhole) (arg7 : Memref sig .tc .vmem S1024x3584 .bf16) (harg7 : arg7.IsWhole) (arg8 : Memref sig .tc .vmem S256x3584 .bf16) (harg8 : arg8.IsWhole) (hc0 : ¬cond0_0 i)
  (x0 : Vec F S4x256x3584 .bf16) (x1 : Vec F S1024x3584 .fp8e4m3) (x2 : Vec F S4x14 .f32) (xs0 : Vec F S1024x3584 .bf16)

/-- What a later point stores into the product: one batch entry at a time, from its dequantised rows and the weight. -/
theorem product_B : (kernelRun0_B c i arg1 harg1 arg2 harg2 arg3 harg3 arg4 harg4 arg5 harg5 arg6 harg6 arg7 harg7 arg8 harg8 hc0 x0 x1 x2 xs0).1 = entries.map fun b => ⟨rY b, product (deqRows arg1 harg1 arg8 x0 b)
    (View.readAt (Elt F) arg7.view (Rect.unit ![0, 0] S1024x3584.size inb_S1024x3584_S1024x3584_0_0).toLoadRect (harg7.unread xs0))⟩ := rfl

/-- The codes a later point stores are the groups' codes, each at its group's place. -/
theorem codes_B : (kernelRun0_B c i arg1 harg1 arg2 harg2 arg3 harg3 arg4 harg4 arg5 harg5 arg6 harg6 arg7 harg7 arg8 harg8 hc0 x0 x1 x2 xs0).2.1 = entries.flatMap fun b => groups.map fun g => ⟨rX b g, codes (load arg1 harg1 x0 b g)⟩ := rfl

/-- The scales a later point stores: one batch entry at a time, a row per group. -/
theorem scales_B : (kernelRun0_B c i arg1 harg1 arg2 harg2 arg3 harg3 arg4 harg4 arg5 harg5 arg6 harg6 arg7 harg7 arg8 harg8 hc0 x0 x1 x2 xs0).2.2.1 = entries.map fun b => ⟨rR b, scaleRows (loads arg1 harg1 x0 b)⟩ := rfl

/-- A later point leaves the dequantised weight alone. -/
theorem weight_B : (kernelRun0_B c i arg1 harg1 arg2 harg2 arg3 harg3 arg4 harg4 arg5 harg5 arg6 harg6 arg7 harg7 arg8 harg8 hc0 x0 x1 x2 xs0).2.2.2.1 = [] := rfl

end B

end Cert.KernelIdeal.Body

end
-- ==== Proof.Blocks.lean ====
/- What the stores of one point leave in the block of each result, read at an index: the computation of the group the
   index lies in, at the index's place in the group. Hand-written, untrusted. -/
module

public import proofs.«01_k».proof.Proof.Body
public import Idealize.ShloMosaic.Lib.Pipeline.CanonAppend
public import Idealize.ShloMosaic.Lib.WholeRead
public import Idealize.ShloMosaic.Lib.Pointwise

@[expose] public section

set_option maxRecDepth 16384

noncomputable section

namespace Cert.KernelIdeal.Body

open Idealize.ShloMosaic Idealize.SL.Sem Cert.KernelIdeal Cert.KernelIdeal.Gen

variable {F : FTy → Type} [FloatOps F]

/-! ## The blocks as functions of the index -/

/-- Group `g` of batch entry `b` in a point's block of the input. -/
def grp (x0 : Vec F S4x256x3584 .bf16) (b : Fin 4) (g : Fin 14) : Vec F S1x256x256 .bf16 :=
  fun j => x0 (ix3 b (j 1) ⟨256 * g.val + (j 2).val, by have h2 : (j 2).val < 256 := (j 2).isLt; omega⟩)
/-- The groups of batch entry `b` by number. -/
def grps (x0 : Vec F S4x256x3584 .bf16) (b : Fin 4) (n : ℕ) : Vec F S1x256x256 .bf16 := grp x0 b (if h : n < 14 then ⟨n, h⟩ else 0)
/-- Which group of 256 a column lies in. -/
def grpOf (k : Fin 3584) : Fin 14 := ⟨k.val / 256, by omega⟩
/-- Which block of 256 rows of the weight a row lies in. -/
def blkOf (k : Fin 1024) : Fin 4 := ⟨k.val / 256, by omega⟩
/-- The place in its group of 256. -/
def place (k : ℕ) : Fin 256 := ⟨k % 256, Nat.mod_lt _ (by decide)⟩

/-- The codes of a point's block. -/
def codesAt (x0 : Vec F S4x256x3584 .bf16) : Vec F S4x256x3584 .fp8e4m3 :=
  fun y => codes (grp x0 (y 0) (grpOf (y 2))) (ix3 0 (y 1) (place (y 2).val))
/-- The scales of a point's block. -/
def scalesAt (x0 : Vec F S4x256x3584 .bf16) : Vec F S14x4x256 .f32 :=
  fun y => scaleRows (grps x0 (y 1)) (ix3 (y 0) 0 (y 2))
/-- The dequantised rows of one batch entry. -/
def deqAt (x0 : Vec F S4x256x3584 .bf16) (b : Fin 4) : Vec F S256x3584 .bf16 :=
  fun y => deq (grp x0 b (grpOf (y 1))) (ix2 (y 0) (place (y 1).val))
/-- Block `(b, g)` of the weight's codes. -/
def wblk (x1 : Vec F S1024x3584 .fp8e4m3) (b : Fin 4) (g : Fin 14) : Vec F S256x256 .fp8e4m3 :=
  fun j => x1 (ix2 ⟨256 * b.val + (j 0).val, by have h : (j 0).val < 256 := (j 0).isLt; omega⟩
    ⟨256 * g.val + (j 1).val, by have h : (j 1).val < 256 := (j 1).isLt; omega⟩)
/-- The dequantised weight. -/
def weightAt (x1 : Vec F S1024x3584 .fp8e4m3) (x2 : Vec F S4x14 .f32) : Vec F S1024x3584 .bf16 :=
  fun y => weight (x2 (ix2 (blkOf (y 0)) (grpOf (y 1)))) (wblk x1 (blkOf (y 0)) (grpOf (y 1))) (ix2 (place (y 0).val) (place (y 1).val))
/-- The product of a point's block. -/
def productAt (x0 : Vec F S4x256x3584 .bf16) (W : Vec F S1024x3584 .bf16) : Vec F S4x256x1024 .bf16 :=
  fun y => product (deqAt x0 (y 0)) W (ix3 0 (y 1) (y 2))

/-! ## The loads -/

theorem load_eq (arg1 : Memref sig .tc .vmem S4x256x3584 .bf16) (harg1 : arg1.IsWhole) (x0 : Vec F S4x256x3584 .bf16) (b : Fin 4) (g : Fin 14) :
    load arg1 harg1 x0 b g = grp x0 b g := by
  funext j
  refine (harg1.readAt_unread x0 (rX b g).toLoadRect j).trans (congrArg x0 ?_)
  funext a; apply Fin.ext
  match a with
  | ⟨0, _⟩ => show b.val + 1 * (j 0).val = b.val; have h : (j 0).val < 1 := (j 0).isLt; omega
  | ⟨1, _⟩ => show 0 + 1 * (j 1).val = (j 1).val; omega
  | ⟨2, _⟩ => show 256 * g.val + 1 * (j 2).val = 256 * g.val + (j 2).val; omega

theorem loads_eq (arg1 : Memref sig .tc .vmem S4x256x3584 .bf16) (harg1 : arg1.IsWhole) (x0 : Vec F S4x256x3584 .bf16) (b : Fin 4) :
    loads arg1 harg1 x0 b = grps x0 b := funext fun _ => load_eq arg1 harg1 x0 b _

theorem wload_eq (arg2 : Memref sig .tc .vmem S1024x3584 .fp8e4m3) (harg2 : arg2.IsWhole) (x1 : Vec F S1024x3584 .fp8e4m3) (b : Fin 4) (g : Fin 14) :
    View.readAt (Elt F) arg2.view (rW b g).toLoadRect (harg2.unread x1) = wblk x1 b g := by
  funext j
  refine (harg2.readAt_unread x1 (rW b g).toLoadRect j).trans (congrArg x1 ?_)
  funext a; apply Fin.ext
  match a with
  | ⟨0, _⟩ => show 256 * b.val + 1 * (j 0).val = 256 * b.val + (j 0).val; omega
  | ⟨1, _⟩ => show 256 * g.val + 1 * (j 1).val = 256 * g.val + (j 1).val; omega

theorem sload_eq (arg3 : Memref sig .tc .smem S4x14 .f32) (harg3 : arg3.IsWhole) (x2 : Vec F S4x14 .f32) (b : Fin 4) (g : Fin 14) (h : 0 < S1x1.numel) :
    View.readAt (Elt F) arg3.view (rS b g).toLoadRect (harg3.unread x2) (Shape.Idx.first h) = x2 (ix2 b g) := by
  refine (harg3.readAt_unread x2 (rS b g).toLoadRect _).trans (congrArg x2 ?_)
  have h0 : ((Shape.Idx.first h : S1x1.Idx) 0).val < 1 := ((Shape.Idx.first h : S1x1.Idx) 0).isLt
  have h1 : ((Shape.Idx.first h : S1x1.Idx) 1).val < 1 := ((Shape.Idx.first h : S1x1.Idx) 1).isLt
  funext a; apply Fin.ext
  match a with
  | ⟨0, _⟩ => show b.val + 1 * ((Shape.Idx.first h : S1x1.Idx) 0).val = b.val; omega
  | ⟨1, _⟩ => show g.val + 1 * ((Shape.Idx.first h : S1x1.Idx) 1).val = g.val; omega

/-- A load of the whole of a buffer of the weight's shape reads the buffer. -/
theorem wholeW (W : Vec F S1024x3584 .bf16) (j : S1024x3584.Idx) :
    W ((Rect.unit ![0, 0] S1024x3584.size inb_S1024x3584_S1024x3584_0_0).toLoadRect.idx j) = W j := by
  congr 1; funext a; apply Fin.ext
  match a with
  | ⟨0, _⟩ => show 0 + 1 * (j 0).val = (j 0).val; omega
  | ⟨1, _⟩ => show 0 + 1 * (j 1).val = (j 1).val; omega

/-! ## The stores -/

/-- The codes' stores leave the codes of the block. -/
theorem canon_codes (arg1 : Memref sig .tc .vmem S4x256x3584 .bf16) (harg1 : arg1.IsWhole) (x0 : Vec F S4x256x3584 .bf16) :
    View.canon (Val := Elt F) (s := S4x256x3584) (e := .fp8e4m3) (entries.flatMap fun b => groups.map fun g => ⟨rX b g, codes (load arg1 harg1 x0 b g)⟩) = codesAt x0 := by
  funext y
  refine View.canon_apply_of_pieces (codesAt x0) _ ?_ y ?_
  · intro p hp
    obtain ⟨b, -, hp⟩ := List.mem_flatMap.mp hp
    obtain ⟨g, -, rfl⟩ := List.mem_map.mp hp
    intro x
    have h0 : (x 0).val < 1 := (x 0).isLt
    have h2 : (x 2).val < 256 := (x 2).isLt
    show codes (load arg1 harg1 x0 b g) x = codes _ _
    rw [load_eq]
    have e0 : ((rX b g).emb x 0 : Fin 4) = b := Fin.ext (by show b.val + 1 * (x 0).val = b.val; omega)
    have e2 : grpOf ((rX b g).emb x 2) = g := Fin.ext (by show (256 * g.val + 1 * (x 2).val) / 256 = g.val; omega)
    rw [e0, e2]
    congr 1; funext a; apply Fin.ext
    match a with
    | ⟨0, _⟩ => show (x 0).val = 0; omega
    | ⟨1, _⟩ => show (x 1).val = 0 + 1 * (x 1).val; omega
    | ⟨2, _⟩ => show (x 2).val = (256 * g.val + 1 * (x 2).val) % 256; omega
  · have hy0 : (y 0).val < 4 := (y 0).isLt
    have hy1 : (y 1).val < 256 := (y 1).isLt
    have hy2 : (y 2).val < 3584 := (y 2).isLt
    refine ⟨_, List.mem_flatMap.mpr ⟨y 0, mem_entries _, List.mem_map.mpr ⟨grpOf (y 2), mem_groups _, rfl⟩⟩, ?_⟩
    refine (Rect.mem_set_unit (inb := inbX (y 0) (grpOf (y 2)))).mpr fun a => ?_
    match a with
    | ⟨0, _⟩ => exact ⟨Nat.le_refl _, Nat.lt_succ_self _⟩
    | ⟨1, _⟩ => exact ⟨Nat.zero_le _, by show (y 1).val < 0 + 256; omega⟩
    | ⟨2, _⟩ => exact ⟨by show 256 * ((y 2).val / 256) ≤ (y 2).val; omega, by show (y 2).val < 256 * ((y 2).val / 256) + 256; omega⟩

/-- The scales' stores leave the scales of the block. -/
theorem canon_scales (arg1 : Memref sig .tc .vmem S4x256x3584 .bf16) (harg1 : arg1.IsWhole) (x0 : Vec F S4x256x3584 .bf16) :
    View.canon (Val := Elt F) (s := S14x4x256) (e := .f32) (entries.map fun b => ⟨rR b, scaleRows (loads arg1 harg1 x0 b)⟩) = scalesAt x0 := by
  funext y
  refine View.canon_apply_of_pieces (scalesAt x0) _ ?_ y ?_
  · intro p hp
    obtain ⟨b, -, rfl⟩ := List.mem_map.mp hp
    intro x
    have h1 : (x 1).val < 1 := (x 1).isLt
    show scaleRows (loads arg1 harg1 x0 b) x = scaleRows _ _
    rw [loads_eq]
    have e1 : ((rR b).emb x 1 : Fin 4) = b := Fin.ext (by show b.val + 1 * (x 1).val = b.val; omega)
    rw [e1]
    congr 1; funext a; apply Fin.ext
    match a with
    | ⟨0, _⟩ => show (x 0).val = 0 + 1 * (x 0).val; omega
    | ⟨1, _⟩ => show (x 1).val = 0; omega
    | ⟨2, _⟩ => show (x 2).val = 0 + 1 * (x 2).val; omega
  · have hy0 : (y 0).val < 14 := (y 0).isLt
    have hy2 : (y 2).val < 256 := (y 2).isLt
    refine ⟨_, List.mem_map.mpr ⟨y 1, mem_entries _, rfl⟩, ?_⟩
    refine (Rect.mem_set_unit (inb := inbR (y 1))).mpr fun a => ?_
    match a with
    | ⟨0, _⟩ => exact ⟨Nat.zero_le _, by show (y 0).val < 0 + 14; omega⟩
    | ⟨1, _⟩ => exact ⟨Nat.le_refl _, Nat.lt_succ_self _⟩
    | ⟨2, _⟩ => exact ⟨Nat.zero_le _, by show (y 2).val < 0 + 256; omega⟩

/-- The rows read back for batch entry `b` are its own: the stores made for earlier entries are overwritten. -/
theorem deqRows_eq (arg1 : Memref sig .tc .vmem S4x256x3584 .bf16) (harg1 : arg1.IsWhole) (arg8 : Memref sig .tc .vmem S256x3584 .bf16)
    (x0 : Vec F S4x256x3584 .bf16) (b : Fin 4) : deqRows arg1 harg1 arg8 x0 b = deqAt x0 b := by
  unfold deqRows
  rw [View.readCov_eq_canon']
  funext j
  have ej : (Rect.unit ![0, 0] S256x3584.size inb_S256x3584_S256x3584_0_0).toLoadRect.idx j = j := by
    funext a; apply Fin.ext
    match a with
    | ⟨0, _⟩ => show 0 + 1 * (j 0).val = (j 0).val; omega
    | ⟨1, _⟩ => show 0 + 1 * (j 1).val = (j 1).val; omega
  rw [ej]
  refine View.canon_append_of_pieces (deqAt x0 b) _ _ ?_ j ?_
  · intro p hp
    obtain ⟨g, -, rfl⟩ := List.mem_map.mp hp
    intro x
    have h1 : (x 1).val < 256 := (x 1).isLt
    show deq (load arg1 harg1 x0 b g) x = deq _ _
    rw [load_eq]
    have e1 : grpOf ((rD g).emb x 1) = g := Fin.ext (by show (256 * g.val + 1 * (x 1).val) / 256 = g.val; omega)
    rw [e1]
    congr 1; funext a; apply Fin.ext
    match a with
    | ⟨0, _⟩ => show (x 0).val = 0 + 1 * (x 0).val; omega
    | ⟨1, _⟩ => show (x 1).val = (256 * g.val + 1 * (x 1).val) % 256; omega
  · have hj0 : (j 0).val < 256 := (j 0).isLt
    have hj1 : (j 1).val < 3584 := (j 1).isLt
    refine ⟨_, List.mem_map.mpr ⟨grpOf (j 1), mem_groups _, rfl⟩, ?_⟩
    refine (Rect.mem_set_unit (inb := inbD (grpOf (j 1)))).mpr fun a => ?_
    match a with
    | ⟨0, _⟩ => exact ⟨Nat.zero_le _, by show (j 0).val < 0 + 256; omega⟩
    | ⟨1, _⟩ => exact ⟨by show 256 * ((j 1).val / 256) ≤ (j 1).val; omega, by show (j 1).val < 256 * ((j 1).val / 256) + 256; omega⟩

/-- The weight's stores leave the dequantised weight. -/
theorem canon_weight (arg2 : Memref sig .tc .vmem S1024x3584 .fp8e4m3) (harg2 : arg2.IsWhole) (arg3 : Memref sig .tc .smem S4x14 .f32) (harg3 : arg3.IsWhole)
    (x1 : Vec F S1024x3584 .fp8e4m3) (x2 : Vec F S4x14 .f32) : View.canon (weightStores arg2 harg2 arg3 harg3 x1 x2) = weightAt x1 x2 := by
  funext y
  refine View.canon_apply_of_pieces (weightAt x1 x2) _ ?_ y ?_
  · intro p hp
    obtain ⟨b, -, hp⟩ := List.mem_flatMap.mp hp
    obtain ⟨g, -, rfl⟩ := List.mem_map.mp hp
    intro x
    have h0 : (x 0).val < 256 := (x 0).isLt
    have h1 : (x 1).val < 256 := (x 1).isLt
    show weight (View.readAt (Elt F) arg3.view (rS b g).toLoadRect (harg3.unread x2) (Shape.Idx.first _))
      (View.readAt (Elt F) arg2.view (rW b g).toLoadRect (harg2.unread x1)) x = weight (x2 _) _ _
    rw [wload_eq, sload_eq]
    have e0 : blkOf ((rW b g).emb x 0) = b := Fin.ext (by show (256 * b.val + 1 * (x 0).val) / 256 = b.val; omega)
    have e1 : grpOf ((rW b g).emb x 1) = g := Fin.ext (by show (256 * g.val + 1 * (x 1).val) / 256 = g.val; omega)
    rw [e0, e1]
    congr 1; funext a; apply Fin.ext
    match a with
    | ⟨0, _⟩ => show (x 0).val = (256 * b.val + 1 * (x 0).val) % 256; omega
    | ⟨1, _⟩ => show (x 1).val = (256 * g.val + 1 * (x 1).val) % 256; omega
  · have hy0 : (y 0).val < 1024 := (y 0).isLt
    have hy1 : (y 1).val < 3584 := (y 1).isLt
    refine ⟨_, List.mem_flatMap.mpr ⟨blkOf (y 0), mem_entries _, List.mem_map.mpr ⟨grpOf (y 1), mem_groups _, rfl⟩⟩, ?_⟩
    refine (Rect.mem_set_unit (inb := inbW (blkOf (y 0)) (grpOf (y 1)))).mpr fun a => ?_
    match a with
    | ⟨0, _⟩ => exact ⟨by show 256 * ((y 0).val / 256) ≤ (y 0).val; omega, by show (y 0).val < 256 * ((y 0).val / 256) + 256; omega⟩
    | ⟨1, _⟩ => exact ⟨by show 256 * ((y 1).val / 256) ≤ (y 1).val; omega, by show (y 1).val < 256 * ((y 1).val / 256) + 256; omega⟩

/-- The product's stores leave the product of the block. -/
theorem canon_product (arg1 : Memref sig .tc .vmem S4x256x3584 .bf16) (harg1 : arg1.IsWhole) (arg8 : Memref sig .tc .vmem S256x3584 .bf16)
    (x0 : Vec F S4x256x3584 .bf16) (W : Vec F S1024x3584 .bf16) :
    View.canon (Val := Elt F) (s := S4x256x1024) (e := .bf16) (entries.map fun b => ⟨rY b, product (deqRows arg1 harg1 arg8 x0 b) W⟩) = productAt x0 W := by
  funext y
  refine View.canon_apply_of_pieces (productAt x0 W) _ ?_ y ?_
  · intro p hp
    obtain ⟨b, -, rfl⟩ := List.mem_map.mp hp
    intro x
    have h0 : (x 0).val < 1 := (x 0).isLt
    show product (deqRows arg1 harg1 arg8 x0 b) W x = product (deqAt x0 _) W _
    rw [deqRows_eq]
    have e0 : ((rY b).emb x 0 : Fin 4) = b := Fin.ext (by show b.val + 1 * (x 0).val = b.val; omega)
    rw [e0]
    congr 1; funext a; apply Fin.ext
    match a with
    | ⟨0, _⟩ => show (x 0).val = 0; omega
    | ⟨1, _⟩ => show (x 1).val = 0 + 1 * (x 1).val; omega
    | ⟨2, _⟩ => show (x 2).val = 0 + 1 * (x 2).val; omega
  · have hy1 : (y 1).val < 256 := (y 1).isLt
    have hy2 : (y 2).val < 1024 := (y 2).isLt
    refine ⟨_, List.mem_map.mpr ⟨y 0, mem_entries _, rfl⟩, ?_⟩
    refine (Rect.mem_set_unit (inb := inbY (y 0))).mpr fun a => ?_
    match a with
    | ⟨0, _⟩ => exact ⟨Nat.le_refl _, Nat.lt_succ_self _⟩
    | ⟨1, _⟩ => exact ⟨Nat.zero_le _, by show (y 1).val < 0 + 256; omega⟩
    | ⟨2, _⟩ => exact ⟨Nat.zero_le _, by show (y 2).val < 0 + 1024; omega⟩

/-! ## The two kinds of point -/

section A
variable (c : Dev nD) (i : grid0.Coords) (arg1 : Memref sig .tc .vmem S4x256x3584 .bf16) (harg1 : arg1.IsWhole) (arg2 : Memref sig .tc .vmem S1024x3584 .fp8e4m3) (harg2 : arg2.IsWhole) (arg3 : Memref sig .tc .smem S4x14 .f32) (harg3 : arg3.IsWhole) (arg4 : Memref sig .tc .vmem S4x256x1024 .bf16) (harg4 : arg4.IsWhole) (arg5 : Memref sig .tc .vmem S4x256x3584 .fp8e4m3) (harg5 : arg5.IsWhole) (arg6 : Memref sig .tc .vmem S14x4x256 .f32) (harg6 : arg6.IsWhole) (arg7 : Memref sig .tc .vmem S1024x3584 .bf16) (harg7 : arg7.IsWhole) (arg8 : Memref sig .tc .vmem S256x3584 .bf16) (harg8 : arg8.IsWhole) (hc0 : cond0_0 i)
  (x0 : Vec F S4x256x3584 .bf16) (x1 : Vec F S1024x3584 .fp8e4m3) (x2 : Vec F S4x14 .f32)

/-- The codes the first point leaves. -/
theorem out4_A : out0_A_4 c i arg1 harg1 arg2 harg2 arg3 harg3 arg4 harg4 arg5 harg5 arg6 harg6 arg7 harg7 arg8 harg8 hc0 x0 x1 x2 = codesAt x0 := by
  unfold out0_A_4
  rw [View.read_writes_junk_eq_canon, codes_A, canon_codes]

/-- The scales the first point leaves. -/
theorem out5_A : out0_A_5 c i arg1 harg1 arg2 harg2 arg3 harg3 arg4 harg4 arg5 harg5 arg6 harg6 arg7 harg7 arg8 harg8 hc0 x0 x1 x2 = scalesAt x0 := by
  unfold out0_A_5
  rw [View.read_writes_junk_eq_canon, scales_A, canon_scales]

/-- The product the first point leaves. -/
theorem out3_A : out0_A_3 c i arg1 harg1 arg2 harg2 arg3 harg3 arg4 harg4 arg5 harg5 arg6 harg6 arg7 harg7 arg8 harg8 hc0 x0 x1 x2 = productAt x0 (weightAt x1 x2) := by
  unfold out0_A_3
  rw [View.read_writes_junk_eq_canon, product_A, canon_product]
  congr 1
  funext j
  rw [View.readCov_eq_canon', canon_weight]
  exact wholeW _ j

/-- The dequantised weight the first point leaves for the later ones. -/
theorem sout_A : sout0_A_0 c i arg1 harg1 arg2 harg2 arg3 harg3 arg4 harg4 arg5 harg5 arg6 harg6 arg7 harg7 arg8 harg8 hc0 x0 x1 x2 = weightAt x1 x2 := by
  unfold sout0_A_0
  rw [View.read_writes_junk_eq_canon, weight_A, canon_weight]

end A

section B
variable (c : Dev nD) (i : grid0.Coords) (arg1 : Memref sig .tc .vmem S4x256x3584 .bf16) (harg1 : arg1.IsWhole) (arg2 : Memref sig .tc .vmem S1024x3584 .fp8e4m3) (harg2 : arg2.IsWhole) (arg3 : Memref sig .tc .smem S4x14 .f32) (harg3 : arg3.IsWhole) (arg4 : Memref sig .tc .vmem S4x256x1024 .bf16) (harg4 : arg4.IsWhole) (arg5 : Memref sig .tc .vmem S4x256x3584 .fp8e4m3) (harg5 : arg5.IsWhole) (arg6 : Memref sig .tc .vmem S14x4x256 .f32) (harg6 : arg6.IsWhole) (arg7 : Memref sig .tc .vmem S1024x3584 .bf16) (harg7 : arg7.IsWhole) (arg8 : Memref sig .tc .vmem S256x3584 .bf16) (harg8 : arg8.IsWhole) (hc0 : ¬cond0_0 i)
  (x0 : Vec F S4x256x3584 .bf16) (x1 : Vec F S1024x3584 .fp8e4m3) (x2 : Vec F S4x14 .f32) (xs0 : Vec F S1024x3584 .bf16)

/-- The codes a later point leaves. -/
theorem out4_B : out0_B_4 c i arg1 harg1 arg2 harg2 arg3 harg3 arg4 harg4 arg5 harg5 arg6 harg6 arg7 harg7 arg8 harg8 hc0 x0 x1 x2 xs0 = codesAt x0 := by
  unfold out0_B_4
  rw [View.read_writes_junk_eq_canon, codes_B, canon_codes]

/-- The scales a later point leaves. -/
theorem out5_B : out0_B_5 c i arg1 harg1 arg2 harg2 arg3 harg3 arg4 harg4 arg5 harg5 arg6 harg6 arg7 harg7 arg8 harg8 hc0 x0 x1 x2 xs0 = scalesAt x0 := by
  unfold out0_B_5
  rw [View.read_writes_junk_eq_canon, scales_B, canon_scales]

/-- The product a later point leaves. -/
theorem out3_B : out0_B_3 c i arg1 harg1 arg2 harg2 arg3 harg3 arg4 harg4 arg5 harg5 arg6 harg6 arg7 harg7 arg8 harg8 hc0 x0 x1 x2 xs0 = productAt x0 (xs0) := by
  unfold out0_B_3
  rw [View.read_writes_junk_eq_canon, product_B, canon_product]
  congr 1
  funext j
  exact (harg7.readAt_unread xs0 _ j).trans (wholeW xs0 j)

end B

end Cert.KernelIdeal.Body

end
-- ==== Proof.Arrays.lean ====
/- What the kernel's three result arrays hold after the run, at an index, as functions of the arguments. Every point
   leaves the same dequantised weight in the scratch the points share, so each block of a result is a function of
   the point's block of the input alone. Hand-written, untrusted. -/
module

public import proofs.«01_k».proof.Proof.Blocks
public import proofs.«01_k».proof.Proof.Gen.KernelIdeal.Value
public import Idealize.ShloMosaic.Lib.Pipeline.ValueKit

@[expose] public section

set_option maxRecDepth 16384

noncomputable section

namespace Cert.KernelIdeal.Body

open Idealize.ShloMosaic Idealize.ShloMosaic.TcCoe Idealize.SL.Sem Cert.KernelIdeal Cert.KernelIdeal.Gen

variable {F : FTy → Type} [FloatOps F]

/-- Rows `256 n … 256 n + 255` of every batch entry of the input. -/
def xblk (a0 : Vec F S4x8192x3584 .bf16) (n : Fin 32) : Vec F S4x256x3584 .bf16 :=
  fun j => a0 (ix3 (j 0) ⟨256 * n.val + (j 1).val, by have h : (j 1).val < 256 := (j 1).isLt; omega⟩ (j 2))

/-- Which block of 256 rows a row of the input lies in. -/
def rowBlk (k : Fin 8192) : Fin 32 := ⟨k.val / 256, by omega⟩

variable (m : (ℓ : Loc nD τ sig) → Buf (Elt F) ℓ) (c : Dev nD)

/-- The input as launched. -/
abbrev A0 : Vec F S4x8192x3584 .bf16 := m ((c : Thread nD τ).loc main_arg0)
/-- The weight's codes as launched. -/
abbrev A1 : Vec F S1024x3584 .fp8e4m3 := m ((c : Thread nD τ).loc main_arg1)
/-- The weight's scales as launched. -/
abbrev A2 : Vec F S4x14 .f32 := m ((c : Thread nD τ).loc main_arg2)

/-- The input windows' index maps, decided over the grid. -/
theorem idx : ∀ t : Fin cfg0.N, win0_0.index t = ![0, t.val, 0] ∧ win0_1.index t = ![0, 0] ∧ win0_2.index t = ![0, 0] :=
  (by decide +kernel : ∀ t : Fin grid0.N, _)

theorem lt32 (t : Fin cfg0.N) : t.val < 32 := lt_of_lt_of_eq t.isLt N_0

/-- The input's block at a point. -/
theorem iblk0 (t : Fin cfg0.N) : iblk m c 0 t = xblk (A0 m c) ⟨t.val, lt32 t⟩ := by
  funext j; blk_ext [iblk, V, idx t]
/-- The weight's codes at a point: all of them. -/
theorem iblk1 (t : Fin cfg0.N) : iblk m c 1 t = A1 m c := by
  funext j; blk_ext [iblk, V, idx t]
/-- The weight's scales at a point: all of them. -/
theorem iblk2 (t : Fin cfg0.N) : iblk m c 2 t = A2 m c := by
  funext j; blk_ext [iblk, V, idx t]

/-- What the results' blocks and the shared scratch hold after each point. -/
theorem outs : ∀ (n : ℕ) (hn : n < cfg0.N), outsAt0 m c n hn =
    (productAt (xblk (A0 m c) ⟨n, lt32 ⟨n, hn⟩⟩) (weightAt (A1 m c) (A2 m c)), codesAt (xblk (A0 m c) ⟨n, lt32 ⟨n, hn⟩⟩),
      scalesAt (xblk (A0 m c) ⟨n, lt32 ⟨n, hn⟩⟩), weightAt (A1 m c) (A2 m c))
  | 0, hn => by
    rw [outsAt0_A m c ⟨0, hn⟩ rfl, out3_A, out4_A, out5_A, sout_A, iblk0, iblk1, iblk2]
  | n + 1, hn => by
    have h32 := lt32 ⟨n + 1, hn⟩
    have h0 : ¬ (n + 1) % 32 = 0 := by simp only at h32; omega
    rw [outsAt0_B m c ⟨n + 1, hn⟩ h0, out3_B, out4_B, out5_B, iblk0]
    simp only [sout0_B_0, Nat.add_sub_cancel, outs n]

/-- The product's array. -/
theorem array3 (i : S4x8192x1024.Idx) : Value.G3 m c i =
    product (deqAt (xblk (A0 m c) (rowBlk (i 1))) (i 0)) (weightAt (A1 m c) (A2 m c)) (ix3 0 (place (i 1).val) (i 2)) := by
  have h0 : (i 0).val < 4 := (i 0).isLt
  have h1 : (i 1).val < 8192 := (i 1).isLt
  have h2 : (i 2).val < 1024 := (i 2).isLt
  have hp : Value.pt3Of i = (i 1).val / 256 := by show 32 * ((i 0).val / 4 - 0) + 1 * ((i 1).val / 256 - 0) + 1 * ((i 2).val / 1024 - 0) = _; omega
  have hN : Value.pt3Of i < cfg0.N := by rw [hp]; exact lt_of_lt_of_eq (by omega) N_0.symm
  unfold Value.G3
  rw [dif_pos hN, ← Value.outsAt0_sweep m c _ hN, outs]
  have e0 : (⟨Value.pt3Of i, lt32 ⟨_, hN⟩⟩ : Fin 32) = rowBlk (i 1) := Fin.ext hp
  rw [e0]
  show product (deqAt _ (Value.loc3Of i 0)) _ (ix3 0 (Value.loc3Of i 1) (Value.loc3Of i 2)) = _
  have l0 : Value.loc3Of i 0 = i 0 := Fin.ext (Nat.mod_eq_of_lt h0)
  have l2 : Value.loc3Of i 2 = i 2 := Fin.ext (Nat.mod_eq_of_lt h2)
  have l1 : Value.loc3Of i 1 = place (i 1).val := Fin.ext rfl
  rw [l0, l1, l2]

/-- The codes' array. -/
theorem array4 (i : S4x8192x3584.Idx) : Value.G4 m c i =
    codes (grp (xblk (A0 m c) (rowBlk (i 1))) (i 0) (grpOf (i 2))) (ix3 0 (place (i 1).val) (place (i 2).val)) := by
  have h0 : (i 0).val < 4 := (i 0).isLt
  have h1 : (i 1).val < 8192 := (i 1).isLt
  have h2 : (i 2).val < 3584 := (i 2).isLt
  have hp : Value.pt4Of i = (i 1).val / 256 := by show 32 * ((i 0).val / 4 - 0) + 1 * ((i 1).val / 256 - 0) + 1 * ((i 2).val / 3584 - 0) = _; omega
  have hN : Value.pt4Of i < cfg0.N := by rw [hp]; exact lt_of_lt_of_eq (by omega) N_0.symm
  unfold Value.G4
  rw [dif_pos hN, ← Value.outsAt0_sweep m c _ hN, outs]
  have e0 : (⟨Value.pt4Of i, lt32 ⟨_, hN⟩⟩ : Fin 32) = rowBlk (i 1) := Fin.ext hp
  rw [e0]
  show codes (grp _ (Value.loc4Of i 0) (grpOf (Value.loc4Of i 2))) (ix3 0 (Value.loc4Of i 1) (place (Value.loc4Of i 2).val)) = _
  have l0 : Value.loc4Of i 0 = i 0 := Fin.ext (Nat.mod_eq_of_lt h0)
  have l2 : Value.loc4Of i 2 = i 2 := Fin.ext (Nat.mod_eq_of_lt h2)
  have l1 : Value.loc4Of i 1 = place (i 1).val := Fin.ext rfl
  rw [l0, l1, l2]

/-- The scales' array. -/
theorem array5 (i : S14x4x8192.Idx) : Value.G5 m c i =
    scaleRows (grps (xblk (A0 m c) (rowBlk (i 2))) (i 1)) (ix3 (i 0) 0 (place (i 2).val)) := by
  have h0 : (i 0).val < 14 := (i 0).isLt
  have h1 : (i 1).val < 4 := (i 1).isLt
  have h2 : (i 2).val < 8192 := (i 2).isLt
  have hp : Value.pt5Of i = (i 2).val / 256 := by show 32 * ((i 0).val / 14 - 0) + 32 * ((i 1).val / 4 - 0) + 1 * ((i 2).val / 256 - 0) = _; omega
  have hN : Value.pt5Of i < cfg0.N := by rw [hp]; exact lt_of_lt_of_eq (by omega) N_0.symm
  unfold Value.G5
  rw [dif_pos hN, ← Value.outsAt0_sweep m c _ hN, outs]
  have e0 : (⟨Value.pt5Of i, lt32 ⟨_, hN⟩⟩ : Fin 32) = rowBlk (i 2) := Fin.ext hp
  rw [e0]
  show scaleRows (grps _ (Value.loc5Of i 1)) (ix3 (Value.loc5Of i 0) 0 (Value.loc5Of i 2)) = _
  have l0 : Value.loc5Of i 0 = i 0 := Fin.ext (Nat.mod_eq_of_lt h0)
  have l1 : Value.loc5Of i 1 = i 1 := Fin.ext (Nat.mod_eq_of_lt h1)
  have l2 : Value.loc5Of i 2 = place (i 2).val := Fin.ext rfl
  rw [l0, l1, l2]

end Cert.KernelIdeal.Body

end
-- ==== Proof.Scale.lean ====
/- A group's scale, from its greatest magnitude, in two ways, and that they agree. The reference takes the floor of a
   logarithm and a power of two; the kernel takes the magnitude's 16-bit pattern, the greatest whose value it reaches, and
   reads the scale and its inverse off that word's bits. Nothing here depends on the programs. Hand-written, untrusted. -/
module

public import Idealize.ShloMosaic.Lib.Pointwise

@[expose] public section

set_option maxRecDepth 16384

noncomputable section

namespace Cert.Scale

open Idealize.ShloMosaic

/-! ## The two definitions -/

/-- A group's greatest magnitude. -/
def amax (f : Fin 256 → EReal) : EReal := Finset.univ.fold max ⊥ fun l => max (f l) (-(f l))

/-- The exponent before the range check: one more than the floor of the base-2 logarithm of `a / 448`. -/
def rawExpo (a : EReal) : EReal := Ideal.liftRound Int.floor (Ideal.div (Ideal.log (Ideal.div a (448 : ℝ))) (Ideal.log (2 : ℝ))) + 1

open Classical in
/-- The reference's exponent: 0 for a group of zeros, for an infinity and below -125, and at most 120. -/
def expo (a : EReal) : EReal := if a = 0 ∨ a = ⊤ ∨ rawExpo a < ((-125 : ℝ) : EReal) then 0 else min (rawExpo a) ((120 : ℝ) : EReal)

/-- The pattern of the `k`-th power of two. -/
def power (k : Fin 256) : BitVec 32 := IntOp.shli .vector (BitVec.ofNat 32 k.val) 7#32
/-- The pattern with fraction `j` after `w`, infinity's at most. -/
def withFrac (w : BitVec 32) (j : Fin 128) : BitVec 32 := IntOp.minsi (IntOp.addi w (BitVec.ofNat 32 j.val)) 32640#32

/-- The greatest of a family of words. -/
def top {n : ℕ} (c : Fin n → BitVec 32) : BitVec 32 := Finset.univ.fold IntOp.maxsi 2147483648#32 c

open Classical in
/-- The pattern of the greatest power of two that `a` reaches. -/
def powerOf (a : EReal) : BitVec 32 :=
  top fun k : Fin 256 => if Ideal.ofBits .f32 (IntOp.shli .vector (BitVec.ofNat 32 k.val) 23#32) ≤ a then power k else 0#32

open Classical in
/-- The kernel's word of a greatest magnitude `a`. -/
def wordOf (a : EReal) : BitVec 16 :=
  BitVec.setWidth 16 (top fun j : Fin 128 =>
    if Ideal.ofBits .f32 (IntOp.shli .vector (withFrac (powerOf a) j) 16#32) ≤ a then withFrac (powerOf a) j else 0#32)

/-- The scale's 16-bit pattern, from the word. -/
def scaleWord (w : BitVec 16) : BitVec 16 :=
  Scalar.select (IntOp.andi (IntOp.cmpi .sge w 1248#16) (IntOp.cmpi .slt w 32640#16))
    (IntOp.subi (IntOp.andi (IntOp.addi w 32#16) 32640#16) 1024#16) 16256#16

/-- The kernel's scale. -/
def scaleOf (a : EReal) : EReal := Ideal.ofBits .bf16 (scaleWord (wordOf a))
/-- The kernel's inverse of the scale. -/
def invOf (a : EReal) : EReal := Ideal.ofBits .bf16 (IntOp.subi 32512#16 (scaleWord (wordOf a)))

/-! ## Patterns -/

theorem ofBits_negInf_bf16 : Ideal.ofBits .bf16 65408#16 = ⊥ := by simp [Ideal.ofBits, Ideal.ieee]
theorem ofBits_negInf : Ideal.ofBits .f32 4286578688#32 = ⊥ := by simp [Ideal.ofBits, Ideal.ieee]
theorem ofBits_448 : Ideal.ofBits .f32 1138753536#32 = ((448 : ℝ) : EReal) := by
  simp [Ideal.ofBits, Ideal.ieee, -EReal.coe_mul]; norm_num
theorem ofBits_2 : Ideal.ofBits .f32 1073741824#32 = ((2 : ℝ) : EReal) := by
  simp [Ideal.ofBits, Ideal.ieee, -EReal.coe_mul]; norm_num
theorem ofBits_neg125 : Ideal.ofBits .f32 3271163904#32 = ((-125 : ℝ) : EReal) := by
  simp [Ideal.ofBits, Ideal.ieee, -EReal.coe_mul]; norm_num
theorem ofBits_120 : Ideal.ofBits .f32 1123024896#32 = ((120 : ℝ) : EReal) := by
  simp [Ideal.ofBits, Ideal.ieee, -EReal.coe_mul]; norm_num

theorem ofBits_inf : Ideal.ofBits .f32 2139095040#32 = ⊤ := by simp [Ideal.ofBits, Ideal.ieee]

/-- The value of a 16-bit pattern `p` up to infinity's, as that of the 32-bit pattern it begins. -/
def val (p : ℕ) : EReal := Ideal.ofBits .f32 (BitVec.ofNat 32 (p * 65536))

/-- A finite pattern's value: exponent field `p / 128`, fraction field `p % 128`. -/
def finite (p : ℕ) : ℝ := if p < 128 then p * (2 : ℝ) ^ (-133 : ℤ) else (128 + (p % 128 : ℕ)) * (2 : ℝ) ^ ((p / 128 : ℕ) - 134 : ℤ)

theorem val_finite (p : ℕ) (hp : p < 32640) : val p = (finite p : EReal) := by
  have h1 : (BitVec.ofNat 32 (p * 65536)).extractLsb' 31 1 = 0#1 := by
    apply BitVec.eq_of_toNat_eq
    simp only [BitVec.extractLsb'_toNat, BitVec.toNat_ofNat, Nat.shiftRight_eq_div_pow]
    omega
  have h2 : ((BitVec.ofNat 32 (p * 65536)).extractLsb' 23 8).toNat = p / 128 := by
    simp only [BitVec.extractLsb'_toNat, BitVec.toNat_ofNat, Nat.shiftRight_eq_div_pow]
    omega
  have h3 : ((BitVec.ofNat 32 (p * 65536)).extractLsb' 0 23).toNat = p % 128 * 65536 := by
    simp only [BitVec.extractLsb'_toNat, BitVec.toNat_ofNat, Nat.shiftRight_eq_div_pow]
    omega
  unfold val finite Ideal.ofBits Ideal.ieee
  simp only [h1, h2, h3]
  have hf : p / 128 < 255 := by omega
  rw [if_neg (by simpa using hf.ne)]
  by_cases hs : p < 128
  · rw [if_pos (by omega), if_pos hs]
    congr 1
    have e : p % 128 = p := Nat.mod_eq_of_lt hs
    rw [e]
    have e2 : ((2 : ℝ) ^ (-133 : ℤ)) = 65536 * (2 : ℝ) ^ (-149 : ℤ) := by
      rw [show (-133 : ℤ) = -149 + 16 by norm_num, zpow_add₀ (by norm_num)]; norm_num
    rw [e2]
    norm_num
    ring
  · rw [if_neg (by omega), if_neg hs]
    congr 1
    generalize p % 128 = f
    generalize p / 128 = x
    have e : ((x : ℕ) : ℤ) - (2 ^ (8 - 1) - 1) - (23 : ℕ) = ((x : ℕ) - 134 : ℤ) - 16 := by push_cast; omega
    rw [e, zpow_sub₀ (by norm_num)]
    push_cast
    norm_num
    ring

theorem val_inf : val 32640 = ⊤ := ofBits_inf

/-- A greater pattern has a greater value. -/
theorem finite_le_succ (p : ℕ) : finite p ≤ finite (p + 1) := by
  unfold finite
  rcases lt_trichotomy (p + 1) 128 with h | h | h
  · rw [if_pos (by omega), if_pos h]
    exact mul_le_mul_of_nonneg_right (by push_cast; linarith) (by positivity)
  · obtain rfl : p = 127 := by omega
    rw [if_pos (by decide), if_neg (by decide)]
    norm_num
  · rw [if_neg (by omega), if_neg (by omega)]
    by_cases hf : p % 128 = 127
    · rw [show (p + 1) % 128 = 0 by omega, show (p + 1) / 128 = p / 128 + 1 by omega, hf]
      generalize p / 128 = x
      rw [show ((x + 1 : ℕ) : ℤ) - 134 = ((x : ℤ) - 134) + 1 by push_cast; ring, zpow_add_one₀ (by norm_num)]
      have : (0 : ℝ) < 2 ^ ((x : ℤ) - 134) := by positivity
      push_cast
      linarith
    · rw [show (p + 1) % 128 = p % 128 + 1 by omega, show (p + 1) / 128 = p / 128 by omega]
      exact mul_le_mul_of_nonneg_right (by push_cast; linarith) (by positivity)

theorem finite_mono : Monotone finite := monotone_nat_of_le_succ finite_le_succ

theorem val_mono (p q : ℕ) (h : p ≤ q) (hq : q ≤ 32640) : val p ≤ val q := by
  rcases hq.eq_or_lt with rfl | hq
  · rw [val_inf]; exact le_top
  · rw [val_finite p (by omega), val_finite q hq, EReal.coe_le_coe_iff]; exact finite_mono h

/-- The greatest of a family of words that are not negative is one of them, and none is greater. -/
theorem top_spec {n : ℕ} (h0 : 0 < n) (c : Fin n → BitVec 32) (hc : ∀ k, (c k).toNat < 2 ^ 31) :
    ∃ k, top c = c k ∧ ∀ j, (c j).toNat ≤ (top c).toNat := by
  have key : ∀ s : Finset (Fin n), (s = ∅ ∧ s.fold IntOp.maxsi 2147483648#32 c = 2147483648#32) ∨
      ∃ k ∈ s, s.fold IntOp.maxsi 2147483648#32 c = c k ∧ ∀ j ∈ s, (c j).toNat ≤ (c k).toNat := by
    intro s
    induction s using Finset.induction_on with
    | empty => exact Or.inl ⟨rfl, by simp⟩
    | insert a s ha ih =>
      right
      rw [Finset.fold_insert ha]
      rcases ih with ⟨rfl, e⟩ | ⟨k, hk, e, hj⟩
      · refine ⟨a, Finset.mem_insert_self _ _, ?_, fun j hj => ?_⟩
        · rw [e]; unfold IntOp.maxsi
          have ha := hc a
          rw [if_pos]
          rw [BitVec.slt_iff_toInt_lt, BitVec.toInt_eq_toNat_of_lt (x := c a) (by omega)]
          have : (2147483648#32).toInt = -2147483648 := by decide
          omega
        · rw [Finset.mem_insert] at hj
          rcases hj with rfl | hj
          · exact le_rfl
          · exact absurd hj (Finset.notMem_empty _)
      · rw [e]; unfold IntOp.maxsi
        have h1 := hc a
        have h2 := hc k
        have hs : ((c k).slt (c a) = true) ↔ (c k).toNat < (c a).toNat := by
          rw [BitVec.slt_iff_toInt_lt, BitVec.toInt_eq_toNat_of_lt (by omega), BitVec.toInt_eq_toNat_of_lt (by omega)]; omega
        by_cases h : (c k).toNat < (c a).toNat
        · rw [if_pos (hs.mpr h)]
          refine ⟨a, Finset.mem_insert_self _ _, rfl, fun j hj' => ?_⟩
          rw [Finset.mem_insert] at hj'
          rcases hj' with rfl | hj'
          · exact le_rfl
          · exact (hj j hj').trans h.le
        · rw [if_neg (fun x => h (hs.mp x))]
          refine ⟨k, Finset.mem_insert_of_mem hk, rfl, fun j hj' => ?_⟩
          rw [Finset.mem_insert] at hj'
          rcases hj' with rfl | hj'
          · omega
          · exact hj j hj'
  rcases key Finset.univ with ⟨e, _⟩ | ⟨k, _, e, hj⟩
  · exact absurd (Finset.mem_univ (⟨0, h0⟩ : Fin n)) (by rw [e]; exact Finset.notMem_empty _)
  · refine ⟨k, e, fun j => ?_⟩
    rw [show top c = c k from e]
    exact hj j (Finset.mem_univ j)

/-! ## The words as numbers -/

theorem power_toNat : ∀ k : Fin 256, (power k).toNat = k.val * 128 := by decide +kernel
theorem power_shl : ∀ k : Fin 256, IntOp.shli .vector (BitVec.ofNat 32 k.val) 23#32 = BitVec.ofNat 32 (k.val * 128 * 65536) := by decide +kernel
/-- A pattern's place in a 32-bit pattern. -/
theorem shl16 (p : ℕ) (hp : p ≤ 32640) : IntOp.shli .vector (BitVec.ofNat 32 p) 16#32 = BitVec.ofNat 32 (p * 65536) := by
  unfold IntOp.shli
  rw [if_pos (by decide)]
  apply BitVec.eq_of_toNat_eq
  simp [Nat.shiftLeft_eq]
theorem withFrac_eq (q : ℕ) (hq : q ≤ 32640) (j : Fin 128) : withFrac (BitVec.ofNat 32 q) j = BitVec.ofNat 32 (min (q + j.val) 32640) := by
  have hj := j.isLt
  unfold withFrac IntOp.minsi IntOp.addi
  have e : BitVec.ofNat 32 q + BitVec.ofNat 32 j.val = BitVec.ofNat 32 (q + j.val) := by
    apply BitVec.eq_of_toNat_eq; simp
  rw [e]
  have hs : ((BitVec.ofNat 32 (q + j.val)).slt 32640#32 = true) ↔ q + j.val < 32640 := by
    rw [BitVec.slt_iff_toInt_lt, BitVec.toInt_eq_toNat_of_lt (by rw [BitVec.toNat_ofNat]; omega), BitVec.toNat_ofNat]
    have : (32640#32).toInt = 32640 := by decide
    omega
  by_cases h : q + j.val < 32640
  · rw [if_pos (hs.mpr h), min_eq_left h.le]
  · rw [if_neg (fun x => h (hs.mp x)), min_eq_right (by omega)]

theorem val_zero : val 0 = 0 := by
  rw [val_finite 0 (by decide)]; unfold finite; rw [if_pos (by decide)]; simp

/-- The power of two found is the greatest whose value `a` reaches. -/
theorem powerOf_spec (a : EReal) (ha : 0 ≤ a) : ∃ k : ℕ, k < 256 ∧ powerOf a = BitVec.ofNat 32 (k * 128) ∧ val (k * 128) ≤ a
    ∧ ∀ j : ℕ, j < 256 → val (j * 128) ≤ a → j ≤ k := by
  classical
  have hc : ∀ k : Fin 256, ((if Ideal.ofBits .f32 (IntOp.shli .vector (BitVec.ofNat 32 k.val) 23#32) ≤ a then power k else 0#32 : BitVec 32)).toNat
      = if val (k.val * 128) ≤ a then k.val * 128 else 0 := by
    intro k
    rw [power_shl]
    show _ = if Ideal.ofBits .f32 (BitVec.ofNat 32 (k.val * 128 * 65536)) ≤ a then _ else _
    split_ifs
    · exact power_toNat k
    · rfl
  obtain ⟨k, hk, hj⟩ := top_spec (by decide) (fun k : Fin 256 => if Ideal.ofBits .f32 (IntOp.shli .vector (BitVec.ofNat 32 k.val) 23#32) ≤ a then power k else 0#32)
    (fun k => by rw [hc k]; split_ifs <;> omega)
  have hk' := congrArg BitVec.toNat hk
  have hj' := fun j => (hc j).symm.trans_le (hj j)
  have hp : powerOf a = top (fun k : Fin 256 => if Ideal.ofBits .f32 (IntOp.shli .vector (BitVec.ofNat 32 k.val) 23#32) ≤ a then power k else 0#32) := rfl
  rw [← hp] at hk' hj'
  rw [hc k] at hk'
  have out : ∀ x : ℕ, x < 256 → (powerOf a).toNat = x * 128 → val (x * 128) ≤ a → ∃ k : ℕ, k < 256 ∧ powerOf a = BitVec.ofNat 32 (k * 128) ∧ val (k * 128) ≤ a
    ∧ ∀ j : ℕ, j < 256 → val (j * 128) ≤ a → j ≤ k := fun x hx e hv => by
      refine ⟨x, hx, ?_, hv, fun j hlt hle => ?_⟩
      · apply BitVec.eq_of_toNat_eq; rw [e, BitVec.toNat_ofNat]; omega
      · have := hj' ⟨j, hlt⟩
        rw [if_pos hle, e] at this
        simp only at this
        omega
  by_cases h : val (k.val * 128) ≤ a
  · rw [if_pos h] at hk'
    exact out k.val k.isLt hk' h
  · rw [if_neg h] at hk'
    exact out 0 (by decide) (by rw [hk']) (by rw [Nat.zero_mul, val_zero]; exact ha)

/-- THE WORD: `a` reaches the value of a pattern exactly when the pattern is not above the word. -/
theorem wordOf_spec (a : EReal) (ha : 0 ≤ a) : ∃ w : ℕ, w ≤ 32640 ∧ wordOf a = BitVec.ofNat 16 w ∧ ∀ p : ℕ, p ≤ 32640 → (val p ≤ a ↔ p ≤ w) := by
  classical
  obtain ⟨k, hk, ek, hv, hmax⟩ := powerOf_spec a ha
  have hw : ∀ j : Fin 128, withFrac (powerOf a) j = BitVec.ofNat 32 (min (k * 128 + j.val) 32640) := fun j => by
    rw [ek, withFrac_eq _ (by omega)]
  have hc : ∀ j : Fin 128, ((if Ideal.ofBits .f32 (IntOp.shli .vector (withFrac (powerOf a) j) 16#32) ≤ a then withFrac (powerOf a) j else 0#32 : BitVec 32)).toNat
      = if val (min (k * 128 + j.val) 32640) ≤ a then min (k * 128 + j.val) 32640 else 0 := by
    intro j
    rw [hw, shl16 _ (Nat.min_le_right _ _)]
    show _ = if Ideal.ofBits .f32 (BitVec.ofNat 32 (min (k * 128 + j.val) 32640 * 65536)) ≤ a then _ else _
    split_ifs
    · rw [BitVec.toNat_ofNat]; have := Nat.min_le_right (k * 128 + j.val) 32640; omega
    · rfl
  obtain ⟨j0, hj0, hj⟩ := top_spec (by decide) (fun j : Fin 128 => if Ideal.ofBits .f32 (IntOp.shli .vector (withFrac (powerOf a) j) 16#32) ≤ a then withFrac (powerOf a) j else 0#32)
    (fun j => by rw [hc j]; have := Nat.min_le_right (k * 128 + j.val) 32640; split_ifs <;> omega)
  have hj' := fun j => (hc j).symm.trans_le (hj j)
  have hw' : wordOf a = BitVec.setWidth 16 (top (fun j : Fin 128 => if Ideal.ofBits .f32 (IntOp.shli .vector (withFrac (powerOf a) j) 16#32) ≤ a then withFrac (powerOf a) j else 0#32)) := rfl
  have e0 := congrArg BitVec.toNat hj0
  rw [hc j0] at e0
  generalize top (fun j : Fin 128 => if Ideal.ofBits .f32 (IntOp.shli .vector (withFrac (powerOf a) j) 16#32) ≤ a then withFrac (powerOf a) j else 0#32) = t at *
  have ht : t.toNat ≤ 32640 ∧ val t.toNat ≤ a := by
    rw [e0]
    split_ifs with h
    · exact ⟨Nat.min_le_right _ _, h⟩
    · exact ⟨Nat.zero_le _, by rw [val_zero]; exact ha⟩
  refine ⟨t.toNat, ht.1, ?_, fun p hp => ⟨fun h => ?_, fun h => (val_mono p _ h ht.1).trans ht.2⟩⟩
  · rw [hw']; apply BitVec.eq_of_toNat_eq; simp
  · have h1 : p / 128 ≤ k := hmax _ (by omega) ((val_mono _ _ (by omega) hp).trans h)
    rcases h1.eq_or_lt with h1 | h1
    · have := hj' ⟨p % 128, by omega⟩
      simp only at this
      rw [show min (k * 128 + p % 128) 32640 = p by rw [min_eq_left (by omega)]; omega, if_pos h] at this
      exact this
    · have := hj' ⟨0, by decide⟩
      simp only at this
      rw [show min (k * 128 + 0) 32640 = k * 128 by rw [min_eq_left (by omega)]; omega, if_pos hv] at this
      omega

/-- The pattern with exponent field `x` and no fraction is `2^(x-127)`. -/
theorem ofBits_pow : ∀ x : ℕ, 0 < x → x < 255 → Ideal.ofBits .bf16 (BitVec.ofNat 16 (x * 128)) = (((2 : ℝ) ^ ((x : ℤ) - 127) : ℝ) : EReal) := by
  intro x h0 h1
  have parts : ∀ x : Fin 255, (BitVec.ofNat 16 (x.val * 128)).extractLsb' 15 1 = 0#1 ∧ ((BitVec.ofNat 16 (x.val * 128)).extractLsb' 7 8).toNat = x.val
    ∧ ((BitVec.ofNat 16 (x.val * 128)).extractLsb' 0 7).toNat = 0 := by decide +kernel
  obtain ⟨e1, e2, e3⟩ := parts ⟨x, h1⟩
  simp only at e1 e2 e3
  unfold Ideal.ofBits Ideal.ieee
  simp only [e1, e2, e3]
  rw [if_neg (by omega), if_neg (by omega)]
  congr 1
  have e : (x : ℤ) - (2 ^ (8 - 1) - 1) - (7 : ℕ) = ((x : ℤ) - 127) - 7 := by push_cast; omega
  rw [e, zpow_sub₀ (by norm_num)]
  norm_num
  ring

/-! ## The scale's pattern, decided -/

theorem scaleWord_low : ∀ q : Fin 9, ∀ f : Fin 128, scaleWord (BitVec.ofNat 16 (q.val * 128 + f.val)) = 16256#16 := by decide +kernel
theorem scaleWord_nine : ∀ f : Fin 96, scaleWord (BitVec.ofNat 16 (9 * 128 + f.val)) = 16256#16 := by decide +kernel
theorem scaleWord_mid : ∀ k : Fin 246, ∀ f : Fin 128, 1248 + k.val * 128 + f.val < 32640 → scaleWord (BitVec.ofNat 16 (1248 + k.val * 128 + f.val)) = BitVec.ofNat 16 ((k.val + 2) * 128) := by
  decide +kernel
theorem scaleWord_inf : scaleWord (BitVec.ofNat 16 32640) = 16256#16 := by decide +kernel
theorem inv_mid : ∀ k : Fin 246, IntOp.subi 32512#16 (BitVec.ofNat 16 ((k.val + 2) * 128)) = BitVec.ofNat 16 ((252 - k.val) * 128) := by
  decide +kernel
theorem inv_one : IntOp.subi 32512#16 16256#16 = BitVec.ofNat 16 (127 * 128) := by decide

/-- Below the first threshold the scale is one. -/
theorem scaleWord_below (w : ℕ) (h : w < 1248) : scaleWord (BitVec.ofNat 16 w) = 16256#16 := by
  by_cases h9 : w < 9 * 128
  · have := scaleWord_low ⟨w / 128, by omega⟩ ⟨w % 128, by omega⟩
    simp only at this
    rwa [show w / 128 * 128 + w % 128 = w by omega] at this
  · have := scaleWord_nine ⟨w - 9 * 128, by omega⟩
    simp only at this
    rwa [show 9 * 128 + (w - 9 * 128) = w by omega] at this

/-- From the `k`-th threshold to the next, or to infinity, the scale is the pattern of `2^(k-125)`. -/
theorem scaleWord_from (k w : ℕ) (hk : k < 246) (h1 : 1248 + k * 128 ≤ w) (h2 : w < 1248 + (k + 1) * 128) (h3 : w < 32640) :
    scaleWord (BitVec.ofNat 16 w) = BitVec.ofNat 16 ((k + 2) * 128) := by
  have := scaleWord_mid ⟨k, hk⟩ ⟨w - (1248 + k * 128), by omega⟩
  simp only at this
  rw [show 1248 + k * 128 + (w - (1248 + k * 128)) = w by omega] at this
  exact this h3

/-- The value of the `k`-th threshold is `448 · 2^(k-126)`. -/
theorem val_threshold (k : ℕ) (hk : k < 246) : val (1248 + k * 128) = ((448 * (2 : ℝ) ^ ((k : ℤ) - 126) : ℝ) : EReal) := by
  rw [val_finite _ (by omega)]
  unfold finite
  rw [if_neg (by omega), show (1248 + k * 128) % 128 = 96 by omega, show (1248 + k * 128) / 128 = k + 9 by omega]
  rw [show ((k + 9 : ℕ) : ℤ) - 134 = ((k : ℤ) - 126) + 1 by push_cast; ring, zpow_add_one₀ (by norm_num)]
  congr 1
  push_cast
  ring

/-- The scale and its inverse as powers of two, from the exponent. -/
def IsPow (a : EReal) (e : ℤ) : Prop := scaleOf a = (((2 : ℝ) ^ e : ℝ) : EReal) ∧ invOf a = (((2 : ℝ) ^ (-e) : ℝ) : EReal)

theorem isPow_one (a : EReal) (h : scaleWord (wordOf a) = 16256#16) : IsPow a 0 := by
  unfold IsPow scaleOf invOf
  rw [h]
  exact ⟨ofBits_pow 127 (by decide) (by decide), by rw [inv_one]; exact ofBits_pow 127 (by decide) (by decide)⟩

theorem isPow_mid (a : EReal) (k : ℕ) (hk : k < 246) (h : scaleWord (wordOf a) = BitVec.ofNat 16 ((k + 2) * 128)) : IsPow a ((k : ℤ) - 125) := by
  unfold IsPow scaleOf invOf
  rw [h]
  have hi := inv_mid ⟨k, hk⟩
  simp only at hi
  refine ⟨?_, ?_⟩
  · rw [ofBits_pow _ (by omega) (by omega), show ((k + 2 : ℕ) : ℤ) - 127 = (k : ℤ) - 125 by omega]
  · rw [hi, ofBits_pow _ (by omega) (by omega)]
    rw [show ((252 - k : ℕ) : ℤ) - 127 = -((k : ℤ) - 125) by omega]

/-! ## The reference's exponent, by the size of the magnitude -/

/-- For a positive real the raw exponent is one more than the floor `n` of a logarithm, and the `k`-th threshold is
    reached exactly when `k - 126 ≤ n`. -/
theorem of_pos (r : ℝ) (hr : 0 < r) : ∃ n : ℤ, rawExpo (r : EReal) = ((n + 1 : ℤ) : ℝ) ∧
    ∀ k : ℕ, k < 246 → (val (1248 + k * 128) ≤ (r : EReal) ↔ (k : ℤ) - 126 ≤ n) := by
  have ht : 0 < r / 448 := by positivity
  refine ⟨⌊Real.log (r / 448) / Real.log 2⌋, ?_, fun k hk => ?_⟩
  · have d1 : Ideal.div (r : EReal) ((448 : ℝ) : EReal) = ((r / 448 : ℝ) : EReal) := by
      unfold Ideal.div
      rw [if_neg (by rw [← EReal.coe_zero, EReal.coe_eq_coe_iff]; norm_num), ← EReal.coe_inv, ← EReal.coe_mul, div_eq_mul_inv]
    have h2 : Real.log 2 ≠ 0 := (Real.log_pos (by norm_num)).ne'
    unfold rawExpo
    rw [d1, Ideal.log_coe, if_neg (not_le.mpr ht), Ideal.log_coe, if_neg (by norm_num)]
    have d2 : Ideal.div (Real.log (r / 448) : EReal) (Real.log 2 : EReal) = ((Real.log (r / 448) / Real.log 2 : ℝ) : EReal) := by
      unfold Ideal.div
      rw [if_neg (by rw [← EReal.coe_zero, EReal.coe_eq_coe_iff]; exact h2), ← EReal.coe_inv, ← EReal.coe_mul, ← div_eq_mul_inv]
    rw [d2]
    show (((⌊Real.log (r / 448) / Real.log 2⌋ : ℤ) : ℝ) : EReal) + 1 = _
    rw [← EReal.coe_one, ← EReal.coe_add]; push_cast; rfl
  · rw [val_threshold k hk, EReal.coe_le_coe_iff, Int.le_floor,
      le_div_iff₀ (Real.log_pos (by norm_num)), ← Real.log_zpow, Real.log_le_log_iff (by positivity) ht, le_div_iff₀ (by norm_num), mul_comm]

/-- The kernel's scale is two to the reference's exponent. -/
theorem isPow_expo (a : EReal) (ha : 0 ≤ a) : ∃ e : ℤ, expo a = ((e : ℝ) : EReal) ∧ IsPow a e := by
  obtain ⟨w, hw, ew, hv⟩ := wordOf_spec a ha
  induction a with
  | bot => exact absurd ha (by simp)
  | top =>
    refine ⟨0, ?_, isPow_one _ ?_⟩
    · unfold expo; rw [if_pos (Or.inr (Or.inl rfl))]; simp
    · obtain rfl : w = 32640 := le_antisymm hw ((hv 32640 le_rfl).mp le_top)
      rw [ew, scaleWord_inf]
  | coe r =>
    rcases (EReal.coe_nonneg.mp ha).eq_or_lt with h0 | hr
    · subst h0
      refine ⟨0, ?_, isPow_one _ ?_⟩
      · unfold expo; rw [if_pos (Or.inl EReal.coe_zero)]; simp
      · have : ¬ 1248 ≤ w := fun h => by
          have := (hv 1248 (by decide)).mpr h
          rw [show 1248 = 1248 + 0 * 128 from rfl, val_threshold 0 (by decide), EReal.coe_le_coe_iff] at this
          exact absurd this (not_le.mpr (by positivity))
        rw [ew, scaleWord_below w (by omega)]
    · obtain ⟨n, he, hn⟩ := of_pos r hr
      have hth : ∀ k : ℕ, k < 246 → ((k : ℤ) - 126 ≤ n ↔ 1248 + k * 128 ≤ w) := fun k hk => (hn k hk).symm.trans (hv _ (by omega))
      have hinf : w < 32640 := by
        rcases hw.eq_or_lt with h | h
        · exact absurd ((hv 32640 le_rfl).mpr h.ge) (by rw [val_inf]; exact not_le.mpr (EReal.coe_lt_top r))
        · exact h
      have c0 : ¬ (r : EReal) = 0 := by rw [← EReal.coe_zero, EReal.coe_eq_coe_iff]; exact hr.ne'
      have c1 : (((n + 1 : ℤ) : ℝ) : EReal) < ((-125 : ℝ) : EReal) ↔ n + 1 < -125 := by
        rw [EReal.coe_lt_coe_iff]; exact_mod_cast Iff.rfl
      by_cases h1 : n + 1 < -125
      · refine ⟨0, ?_, isPow_one _ ?_⟩
        · unfold expo; rw [he, if_pos (Or.inr (Or.inr (c1.mpr h1)))]; simp
        · have := (hth 0 (by decide)).not.mp (by omega)
          rw [ew, scaleWord_below w (by omega)]
      · have hx : expo (r : EReal) = min (((n + 1 : ℤ) : ℝ) : EReal) ((120 : ℝ) : EReal) := by
          unfold expo
          rw [he, if_neg (by rw [c1]; exact fun h => h.elim c0 (fun h => h.elim (EReal.coe_ne_top r) h1))]
        by_cases h2 : n + 1 < 120
        · obtain ⟨k, hk⟩ : ∃ k : ℕ, (k : ℤ) = n + 126 := ⟨(n + 126).toNat, by omega⟩
          have hk6 : k + 1 < 246 := by omega
          refine ⟨n + 1, ?_, ?_⟩
          · rw [hx, min_eq_left]
            rw [EReal.coe_le_coe_iff]; exact_mod_cast h2.le
          · have a1 := (hth k (by omega)).mp (by omega)
            have a2 := (hth (k + 1) hk6).not.mp (by omega)
            have := isPow_mid (r : EReal) k (by omega) (by rw [ew]; exact scaleWord_from k w (by omega) a1 (by omega) hinf)
            rwa [show (k : ℤ) - 125 = n + 1 by omega] at this
        · refine ⟨120, ?_, ?_⟩
          · rw [hx, min_eq_right]
            · norm_num
            · rw [EReal.coe_le_coe_iff]; exact_mod_cast not_lt.mp h2
          · have a1 := (hth 245 (by decide)).mp (by omega)
            exact isPow_mid (r : EReal) 245 (by decide) (by rw [ew]; exact scaleWord_from 245 w (by decide) a1 (by omega) hinf)

/-- THE SCALES AGREE: for every magnitude the kernel's scale is two to the reference's exponent, and its inverse two to
    the exponent's negation. -/
theorem scales_agree (a : EReal) (ha : 0 ≤ a) : scaleOf a = Ideal.exp2 (expo a) ∧ invOf a = Ideal.exp2 (0 - expo a) := by
  have ex : ∀ e : ℤ, Ideal.exp2 (((e : ℝ) : EReal)) = (((2 : ℝ) ^ e : ℝ) : EReal) := fun e => by
    rw [Ideal.exp2_coe]; exact congrArg _ (Real.rpow_intCast 2 e)
  obtain ⟨e, he, k1, k2⟩ := isPow_expo a ha
  refine ⟨by rw [k1, he, ex], ?_⟩
  rw [k2, he, ← EReal.coe_zero, ← EReal.coe_sub, zero_sub, ← Int.cast_neg, ex]

/-- A group's greatest magnitude is not negative. -/
theorem amax_nonneg (f : Fin 256 → EReal) : 0 ≤ amax f := by
  have h : max (f 0) (-(f 0)) ≤ amax f := (Finset.le_fold_max _).mpr (Or.inr ⟨0, Finset.mem_univ _, le_rfl⟩)
  refine le_trans ?_ h
  rcases le_total 0 (f 0) with h0 | h0
  · exact le_max_of_le_left h0
  · exact le_max_of_le_right (by rw [← neg_zero]; exact EReal.neg_le_neg_iff.mpr h0)

end Cert.Scale

end
-- ==== Proof.KernelAt.lean ====
/- What one block of the kernel computes, element by element, on extended reals: a row's word and scale are those of the
   row's greatest magnitude, a code is the element times the inverse held to ±448. Hand-written, untrusted. -/
module

public import proofs.«01_k».proof.Proof.Arrays
public import proofs.«01_k».proof.Proof.Scale
public import Idealize.ShloMosaic.Lib.Pointwise

@[expose] public section

set_option maxRecDepth 16384

noncomputable section

namespace Cert.KernelIdeal.Body

open Idealize.ShloMosaic Idealize.ShloMosaic.TcCoe Idealize.SL.Sem Cert.KernelIdeal Cert.KernelIdeal.Gen

/-- Row `r` of a group. -/
def row (L : Vec Ideal S1x256x256 .bf16) (r : Fin 256) : Fin 256 → EReal := fun l => L (ix3 0 r l)

/-- The word of a row is the word of its greatest magnitude. -/
theorem word_at (L : Vec Ideal S1x256x256 .bf16) (r : Fin 256) : word L (ix2 r 0) = Scale.wordOf (Scale.amax (row L r)) := by
  unfold word
  pointwise [k0_pay75, k0_pay74]
  rw [Scale.ofBits_negInf_bf16]
  unfold Scale.wordOf Scale.powerOf Scale.top
  congr 1

/-- The scale of a row. -/
theorem scale_at (L : Vec Ideal S1x256x256 .bf16) (r : Fin 256) : scale L (ix2 r 0) = Scale.scaleOf (Scale.amax (row L r)) := by
  unfold Scale.scaleOf Scale.scaleWord
  rw [← word_at]
  unfold scale
  pointwise [k0_pay79, k0_pay76, k0_pay77, k0_pay78]
  rfl

/-- A code: the element times the inverse, held to ±448. -/
def code (x inv : EReal) : EReal := min (Ideal.ofBits .f32 0x43E00000#32) (max (Ideal.ofBits .f32 0xC3E00000#32) (x * inv))

/-- The code of an element of a row. -/
theorem codes_at (L : Vec Ideal S1x256x256 .bf16) (r l : Fin 256) :
    codes L (ix3 0 r l) = code (row L r l) (Scale.invOf (Scale.amax (row L r))) := by
  unfold Scale.invOf Scale.scaleWord
  rw [← word_at]
  unfold codes
  pointwise [k0_pay81, k0_pay80, k0_pay76, k0_pay77, k0_pay78, square, k0_pay74]
  rfl

/-- A dequantised element of a row. -/
theorem deq_at (L : Vec Ideal S1x256x256 .bf16) (r l : Fin 256) :
    deq L (ix2 r l) = code (row L r l) (Scale.invOf (Scale.amax (row L r))) * Scale.scaleOf (Scale.amax (row L r)) := by
  unfold Scale.invOf Scale.scaleOf Scale.scaleWord
  rw [← word_at]
  unfold deq
  pointwise [k0_pay82, k0_pay79, k0_pay80, k0_pay76, k0_pay77, k0_pay78, square, k0_pay74]
  rfl

/-- A dequantised weight. -/
theorem weight_at (s : EReal) (W : Vec Ideal S256x256 .fp8e4m3) (r l : Fin 256) : weight s W (ix2 r l) = W (ix2 r l) * s := by
  unfold weight
  pointwise [k0_pay60]

/-- The product at an element. -/
theorem product_at (X : Vec Ideal S256x3584 .bf16) (W : Vec Ideal S1024x3584 .bf16) (r : Fin 256) (d : Fin 1024) :
    product X W (ix3 0 r d) = ∑ k : Fin 3584, X (ix2 r k) * W (ix2 d k) := by
  unfold product
  pointwise [k0_pay216]

/-! ## The table of scales -/

/-- One column of the table set. -/
theorem column_at (g : ℕ) (hg : g < 128) (L : Vec Ideal S1x256x256 .bf16) (cols : FVec Ideal S256x128 .f32) (r : Fin 256) (c : Fin 128) :
    column g L cols (ix2 r c) = if c.val = g then scale L (ix2 r 0) else cols (ix2 r c) := by
  unfold column
  generalize scale L = v
  pointwise []
  unfold Scalar.select IntOp.cmpi
  have hc := c.isLt
  by_cases h : c.val = g
  · rw [if_pos h, if_pos (by rw [h]; simp)]
  · have hne : BitVec.ofNat 32 c.val ≠ BitVec.ofNat 32 g := by
      intro e
      have e := congrArg BitVec.toNat e
      rw [BitVec.toNat_ofNat, BitVec.toNat_ofNat] at e
      omega
    rw [if_neg h, if_neg (by simp only [beq_eq_false_iff_ne.mpr hne]; decide)]

/-- The columns of a list of groups set one after the other. -/
theorem columns_fold (L : ℕ → Vec Ideal S1x256x256 .bf16) (r : Fin 256) (c : Fin 128) : ∀ (l : List ℕ) (_ : ∀ g ∈ l, g < 128) (cols : FVec Ideal S256x128 .f32),
    l.foldl (fun cols g => column g (L g) cols) cols (ix2 r c) = if c.val ∈ l then scale (L c.val) (ix2 r 0) else cols (ix2 r c)
  | [], _, cols => by simp
  | g :: l, hl, cols => by
    rw [List.foldl_cons, columns_fold L r c l (fun g hg => hl g (List.mem_cons_of_mem _ hg)), column_at g (hl g List.mem_cons_self)]
    by_cases h1 : c.val ∈ l
    · rw [if_pos h1, if_pos (List.mem_cons_of_mem _ h1)]
    · by_cases h2 : c.val = g
      · rw [if_neg h1, if_pos h2, if_pos (by rw [h2]; exact List.mem_cons_self), h2]
      · rw [if_neg h1, if_neg h2, if_neg (by rw [List.mem_cons]; exact fun h => h.elim h2 h1)]

/-- The rows the body stores are the table's columns. -/
theorem rows_at (t : FVec Ideal S256x128 .f32) (g : Fin 14) (r : Fin 256) :
    shapeCast S14x1x256 (extractStridedSlice S14x256 ![0, 0] (transpose S128x256 [1, 0] t transposes_S256x128_p1_0_S128x256)
      slices_S128x256_o0_0_S14x256) shapeCasts_S14x256_S14x1x256 (ix3 g 0 r) = t (ix2 r ⟨g.val, by omega⟩) := by
  pointwise []

/-- The scale stored for row `r` of group `g` is that row's scale. -/
theorem scaleRows_at (L : ℕ → Vec Ideal S1x256x256 .bf16) (g : Fin 14) (r : Fin 256) :
    scaleRows L (ix3 g 0 r) = Scale.scaleOf (Scale.amax (row (L g.val) r)) := by
  unfold scaleRows columns
  rw [rows_at, columns_fold L r ⟨g.val, by omega⟩ _ (by decide), if_pos (by revert g; decide), scale_at]

end Cert.KernelIdeal.Body

end
-- ==== Proof.ReferenceAt.lean ====
/- What the reference computes, element by element: the scale of a row's group is two to the group's exponent; a code is
   the element times two to the negated exponent, held to ±448; the product is the sum over the 3584 columns of code
   times scale times weight times weight scale. Hand-written, untrusted. -/
module

public import proofs.«01_k».proof.Proof.ReferenceRun
public import proofs.«01_k».proof.Proof.Scale
public import Idealize.ShloMosaic.Lib.Pointwise

@[expose] public section

set_option maxRecDepth 16384

noncomputable section

namespace Cert.ReferenceIdeal.Body

open Idealize.ShloMosaic Idealize.ShloMosaic.TcCoe Idealize.SL.Sem Cert.ReferenceIdeal Cert.ReferenceIdeal.Gen

/-! ## Places -/

/-- Lane `l` of group `g` as a column. -/
def col (g : Fin 14) (l : Fin 256) : Fin 3584 := ⟨g.val * 256 + l.val, by omega⟩
/-- The group of a column. -/
def colGrp (d : Fin 3584) : Fin 14 := ⟨d.val / 256, by omega⟩
/-- The lane of a column. -/
def colLane (d : Fin 3584) : Fin 256 := ⟨d.val % 256, by omega⟩
/-- The weight-scale block of a weight row. -/
def rowGrp (d : Fin 1024) : Fin 4 := ⟨d.val / 256, by omega⟩

theorem col_grp_lane (d : Fin 3584) : col (colGrp d) (colLane d) = d := by
  apply Fin.ext; simp only [col, colGrp, colLane]; omega

/-- Group `g` of row `(b, s)`. -/
def group (a0 : Vec Ideal S4x8192x3584 .bf16) (b : Fin 4) (s : Fin 8192) (g : Fin 14) : Fin 256 → EReal :=
  fun l => a0 (ix3 b s (col g l))

/-! ## The operations, at any operands -/

/-- Splitting the columns into groups. -/
theorem pay4_at (a0 : Vec Ideal S4x8192x3584 .bf16) (b : Fin 4) (s : Fin 8192) (g : Fin 14) (l : Fin 256) :
    k0_pay4 a0 (ix4 b s g l) = a0 (ix3 b s (col g l)) := by
  unfold col
  pointwise [k0_pay4]

/-- Joining the groups' codes. -/
theorem pay2_at (v : FVec Ideal S4x8192x14x256 .fp8e4m3) (b : Fin 4) (s : Fin 8192) (d : Fin 3584) :
    k0_pay2 v (ix3 b s d) = v (ix4 b s (colGrp d) (colLane d)) := by
  unfold colGrp colLane
  pointwise [k0_pay2]

/-- Putting the groups first. -/
theorem pay3_at (v : FVec Ideal S4x8192x14x1 .f32) (b : Fin 4) (s : Fin 8192) (g : Fin 14) :
    k0_pay3 v (ix3 g b s) = v (ix4 b s g 0) := by
  pointwise [k0_pay3]

/-- A unit axis put last. -/
theorem unit_at (v : FVec Ideal S4x8192x14 .f32) (b : Fin 4) (s : Fin 8192) (g : Fin 14) :
    shapeCast S4x8192x14x1 v shapeCasts_S4x8192x14_S4x8192x14x1 (ix4 b s g 0) = v (ix3 b s g) := by
  pointwise []

/-- The greatest magnitude along the lanes. -/
theorem reduce_at (v : FVec Ideal S4x8192x14x256 .f32) (b : Fin 4) (s : Fin 8192) (g : Fin 14) :
    multiReduction .maximumf [3] S4x8192x14 v 0xFF800000#32 reduces_S4x8192x14x256_S4x8192x14 (.inl rfl) rfl (ix3 b s g)
      = Finset.univ.fold max (Ideal.ofBits .f32 4286578688#32) fun l => v (ix4 b s g l) := by
  pointwise []

/-- The exponent before the range check, as the operations compute it. -/
def rawBits (a : EReal) : EReal :=
  Ideal.liftRound Int.floor (Ideal.div (Ideal.log (Ideal.div a (Ideal.ofBits .f32 0x43E00000#32))) (Ideal.log (Ideal.ofBits .f32 0x40000000#32)))
    + Ideal.ofBits .f32 0x3F800000#32

/-- The exponent, as the operations compute it. -/
def expoBits (a : EReal) : EReal :=
  Scalar.select (IntOp.ori (IntOp.ori (Ideal.cmp .oeq a (Ideal.ofBits .f32 0#32)) (Ideal.cmp .oeq a (Ideal.ofBits .f32 0x7F800000#32)))
      (Ideal.cmp .olt (rawBits a) (Ideal.ofBits .f32 0xC2FA0000#32)))
    (Ideal.ofBits .f32 0#32) (min (rawBits a) (Ideal.ofBits .f32 0x42F00000#32))

/-- It is the exponent. -/
theorem expoBits_eq (a : EReal) : expoBits a = Scale.expo a := by
  have h1 : Ideal.ofBits .f32 0x3F800000#32 = 1 := by
    simp [Ideal.ofBits, Ideal.ieee, -EReal.coe_mul]; norm_num
  have h0 : Ideal.ofBits .f32 0#32 = 0 := by simp [Ideal.ofBits, Ideal.ieee]
  have hr : rawBits a = Scale.rawExpo a := by
    unfold rawBits Scale.rawExpo
    rw [h1, Scale.ofBits_448, Scale.ofBits_2]
  unfold expoBits Scale.expo
  rw [hr, h0, Scale.ofBits_neg125, Scale.ofBits_120, Scale.ofBits_inf]
  simp only [Ideal.cmp, Scalar.select, IntOp.ori]
  generalize Scale.rawExpo a = e
  by_cases c0 : a = 0 <;> by_cases c1 : a = ⊤ <;> by_cases c2 : e < ((-125 : ℝ) : EReal) <;>
    simp only [c0, c1, c2, decide_true, decide_false, or_true, true_or, or_false, false_or, if_true, if_false] <;> rfl

/-- The exponent's elementwise part, at any shape. -/
def expoVec {s : Shape} (w : FVec Ideal s .f32) : FVec Ideal s .f32 :=
  have raw := addf (floor (divf (log (divf w (broadcast s (Scalar.ofBits .f32 0x43E00000#32)))) (log (broadcast s (Scalar.ofBits .f32 0x40000000#32)))))
    (broadcast s (Scalar.ofBits .f32 0x3F800000#32))
  select (ori (ori (cmpf .oeq w (broadcast s (Scalar.ofBits .f32 0x00000000#32))) (cmpf .oeq w (broadcast s (Scalar.ofBits .f32 0x7F800000#32))))
    (cmpf .olt raw (broadcast s (Scalar.ofBits .f32 0xC2FA0000#32)))) (broadcast s (Scalar.ofBits .f32 0x00000000#32))
    (minimumf raw (broadcast s (Scalar.ofBits .f32 0x42F00000#32)))

theorem expoVec_at {s : Shape} (w : FVec Ideal s .f32) (i : s.Idx) : expoVec w i = expoBits (w i) := rfl

/-- A group's greatest magnitude, in its place. -/
def amaxVec (v : FVec Ideal S4x8192x14x256 .f32) : FVec Ideal S4x8192x14x1 .f32 :=
  shapeCast S4x8192x14x1 (multiReduction .maximumf [3] S4x8192x14 (absf v) 0xFF800000#32 reduces_S4x8192x14x256_S4x8192x14 (.inl rfl) rfl)
    shapeCasts_S4x8192x14_S4x8192x14x1

theorem pay5_eq (a0 : Vec Ideal S4x8192x3584 .bf16) : k0_pay5 a0 = expoVec (amaxVec (k0_pay4 a0)) := by
  unfold k0_pay5 expoVec amaxVec
  rfl

/-- The exponent of a group. -/
theorem pay5_at (a0 : Vec Ideal S4x8192x3584 .bf16) (b : Fin 4) (s : Fin 8192) (g : Fin 14) :
    k0_pay5 a0 (ix4 b s g 0) = Scale.expo (Scale.amax (group a0 b s g)) := by
  rw [pay5_eq, expoVec_at, expoBits_eq]
  unfold amaxVec
  rw [unit_at, reduce_at, Scale.ofBits_negInf]
  have h : (fun l => absf (k0_pay4 a0) (ix4 b s g l)) = fun l => max (group a0 b s g l) (-(group a0 b s g l)) := by
    funext l
    show max (k0_pay4 a0 (ix4 b s g l)) (-(k0_pay4 a0 (ix4 b s g l))) = _
    rw [pay4_at]; rfl
  rw [h]; rfl

/-- A value for each group, at its lanes. -/
theorem lanes_at {t : FTy} (w : FVec Ideal S4x8192x14x1 t) (b : Fin 4) (s : Fin 8192) (g : Fin 14) (l : Fin 256) :
    broadcastTo S4x8192x14x256 w broadcasts_S4x8192x14x1_S4x8192x14x256 (ix4 b s g l) = w (ix4 b s g 0) := by
  pointwise []

/-- Two to the negated exponent, at any shape. -/
def invVec {s : Shape} (e : FVec Ideal s .f32) : FVec Ideal s .f32 := exp2 (subf (broadcast s (Scalar.ofBits .f32 0x00000000#32)) e)
theorem invVec_at {s : Shape} (e : FVec Ideal s .f32) (i : s.Idx) : invVec e i = Ideal.exp2 (Ideal.ofBits .f32 0#32 - e i) := rfl

/-- A code: the element times the inverse, held to ±448. -/
def code (x inv : EReal) : EReal := min (Ideal.ofBits .f32 0x43E00000#32) (max (Ideal.ofBits .f32 0xC3E00000#32) (x * inv))
/-- The codes, at any shape. -/
def codeVec {s : Shape} (v inv : FVec Ideal s .f32) : FVec Ideal s .fp8e4m3 :=
  truncf .fp8e4m3 (minimumf (broadcast s (Scalar.ofBits .f32 0x43E00000#32)) (maximumf (broadcast s (Scalar.ofBits .f32 0xC3E00000#32)) (mulf v inv))) bitsLt_fp8e4m3_f32
theorem codeVec_at {s : Shape} (v inv : FVec Ideal s .f32) (i : s.Idx) : codeVec v inv i = code (v i) (inv i) := rfl

theorem pay7_eq (a0 : Vec Ideal S4x8192x3584 .bf16) : k0_pay7 a0
    = codeVec (k0_pay4 a0) (broadcastTo S4x8192x14x256 (invVec (k0_pay5 a0)) broadcasts_S4x8192x14x1_S4x8192x14x256) := by
  unfold k0_pay7 codeVec invVec
  rfl

/-- The code of a lane. -/
theorem pay7_at (a0 : Vec Ideal S4x8192x3584 .bf16) (b : Fin 4) (s : Fin 8192) (g : Fin 14) (l : Fin 256) :
    k0_pay7 a0 (ix4 b s g l) = code (a0 (ix3 b s (col g l))) (Scale.invOf (Scale.amax (group a0 b s g))) := by
  rw [pay7_eq, codeVec_at, lanes_at, invVec_at, pay4_at, pay5_at, (Scale.scales_agree _ (Scale.amax_nonneg _)).2]
  have h0 : Ideal.ofBits .f32 0#32 = 0 := by simp [Ideal.ofBits, Ideal.ieee]
  rw [h0]

theorem exp2_elem {s : Shape} (e : FVec Ideal s .f32) (i : s.Idx) : exp2 e i = Ideal.exp2 (e i) := rfl

/-- The scale of a group. -/
theorem pay6_at (a0 : Vec Ideal S4x8192x3584 .bf16) (b : Fin 4) (s : Fin 8192) (g : Fin 14) :
    k0_pay6 a0 (ix4 b s g 0) = Scale.scaleOf (Scale.amax (group a0 b s g)) := by
  unfold k0_pay6
  rw [exp2_elem, pay5_at, (Scale.scales_agree _ (Scale.amax_nonneg _)).1]

/-- Elementwise product with a scale in the narrower format, at any shape. -/
theorem deq_elem {s : Shape} (q : FVec Ideal s .fp8e4m3) (w : FVec Ideal s .bf16) (i : s.Idx) :
    mulf (extf .bf16 q bitsLt_fp8e4m3_bf16) w i = q i * w i := rfl
theorem truncf_elem {s : Shape} (w : FVec Ideal s .f32) (i : s.Idx) : (truncf .bf16 w bitsLt_bf16_f32) i = w i := rfl

/-- The row of the flattened product. -/
def flatRow (b : Fin 4) (s : Fin 8192) : Fin 32768 := ⟨b.val * 8192 + s.val, by omega⟩

/-- Joining rows and groups. -/
theorem flat_at (v : FVec Ideal S4x8192x14x256 .bf16) (b : Fin 4) (s : Fin 8192) (d : Fin 3584) :
    shapeCast S32768x3584 v shapeCasts_S4x8192x14x256_S32768x3584 (ix2 (flatRow b s) d) = v (ix4 b s (colGrp d) (colLane d)) := by
  unfold flatRow colGrp colLane
  pointwise []

/-- A dequantised element: its code times its group's scale. -/
theorem pay8_at (a0 : Vec Ideal S4x8192x3584 .bf16) (b : Fin 4) (s : Fin 8192) (d : Fin 3584) :
    k0_pay8 a0 (ix2 (flatRow b s) d) = code (a0 (ix3 b s d)) (Scale.invOf (Scale.amax (group a0 b s (colGrp d)))) * Scale.scaleOf (Scale.amax (group a0 b s (colGrp d))) := by
  unfold k0_pay8
  rw [flat_at, deq_elem, lanes_at, truncf_elem, pay7_at, pay6_at, col_grp_lane]

/-- The product of rows and scaled weights. -/
theorem pay1_at (x : FVec Ideal S32768x3584 .bf16) (w : Vec Ideal S1024x3584 .fp8e4m3) (ws : Vec Ideal S4x14 .f32) (b : Fin 4) (s : Fin 8192) (d : Fin 1024) :
    k0_pay1 x w ws (ix3 b s d) = ∑ k : Fin 3584, x (ix2 (flatRow b s) k)
      * (w (ix2 d k) * ws (ix2 (rowGrp d) (colGrp k))) := by
  unfold flatRow colGrp rowGrp
  pointwise [k0_pay1]

/-! ## The three results -/

/-- The product at an element. -/
theorem result1 (a0 : Vec Ideal S4x8192x3584 .bf16) (a1 : Vec Ideal S1024x3584 .fp8e4m3) (a2 : Vec Ideal S4x14 .f32) (b : Fin 4) (s : Fin 8192) (d : Fin 1024) :
    k0_pay1 (k0_pay8 a0) a1 a2 (ix3 b s d) = ∑ k : Fin 3584,
      code (a0 (ix3 b s k)) (Scale.invOf (Scale.amax (group a0 b s (colGrp k)))) * Scale.scaleOf (Scale.amax (group a0 b s (colGrp k)))
        * (a1 (ix2 d k) * a2 (ix2 (rowGrp d) (colGrp k))) := by
  rw [pay1_at]
  refine Finset.sum_congr rfl fun k _ => ?_
  rw [pay8_at]

/-- The code at an element. -/
theorem result2 (a0 : Vec Ideal S4x8192x3584 .bf16) (b : Fin 4) (s : Fin 8192) (d : Fin 3584) :
    k0_pay2 (k0_pay7 a0) (ix3 b s d) = code (a0 (ix3 b s d)) (Scale.invOf (Scale.amax (group a0 b s (colGrp d)))) := by
  rw [pay2_at, pay7_at, col_grp_lane]

/-- The scale of a group. -/
theorem result3 (a0 : Vec Ideal S4x8192x3584 .bf16) (b : Fin 4) (s : Fin 8192) (g : Fin 14) :
    k0_pay3 (k0_pay6 a0) (ix3 g b s) = Scale.scaleOf (Scale.amax (group a0 b s g)) := by
  rw [pay3_at, pay6_at]

end Cert.ReferenceIdeal.Body

end
-- ==== Proof.Equation.lean ====
/- The kernel's three results are the reference's, element by element. Hand-written, untrusted. -/
module

public import proofs.«01_k».proof.Proof.KernelAt
public import proofs.«01_k».proof.Proof.ReferenceAt

@[expose] public section

set_option maxRecDepth 16384

noncomputable section

namespace Cert.Equation

open Idealize.ShloMosaic Idealize.ShloMosaic.TcCoe Idealize.SL.Sem
open Cert.KernelIdeal.Body (row grp grps grpOf blkOf place xblk rowBlk deqAt weightAt wblk A0 A1 A2)
open Cert.ReferenceIdeal.Body (group col colGrp rowGrp)

/-- The kernel's row of a group in a block is the reference's group of that row. -/
theorem row_group (a0 : Vec Ideal Cert.KernelIdeal.S4x8192x3584 .bf16) (b : Fin 4) (s : Fin 8192) (g : Fin 14) :
    row (grp (xblk a0 (rowBlk s)) b g) (place s.val) = group a0 b s g := by
  funext l
  refine congrArg a0 ?_
  funext a; apply Fin.ext
  match a with
  | ⟨0, _⟩ => rfl
  | ⟨1, _⟩ => show 256 * (s.val / 256) + s.val % 256 = s.val; omega
  | ⟨2, _⟩ => show 256 * g.val + l.val = g.val * 256 + l.val; omega

/-- The element of a group at a column's place is the element of the column. -/
theorem group_place (a0 : Vec Ideal Cert.KernelIdeal.S4x8192x3584 .bf16) (b : Fin 4) (s : Fin 8192) (d : Fin 3584) :
    group a0 b s (grpOf d) (place d.val) = a0 (ix3 b s d) := by
  refine congrArg a0 ?_
  funext a; apply Fin.ext
  match a with
  | ⟨0, _⟩ => rfl
  | ⟨1, _⟩ => rfl
  | ⟨2, _⟩ => show d.val / 256 * 256 + d.val % 256 = d.val; omega

/-- The weight's element by blocks is its element. -/
theorem wblk_place (a1 : Vec Ideal Cert.KernelIdeal.S1024x3584 .fp8e4m3) (d : Fin 1024) (k : Fin 3584) :
    wblk a1 (blkOf d) (grpOf k) (ix2 (place d.val) (place k.val)) = a1 (ix2 d k) := by
  refine congrArg a1 ?_
  funext a; apply Fin.ext
  match a with
  | ⟨0, _⟩ => show 256 * (d.val / 256) + d.val % 256 = d.val; omega
  | ⟨1, _⟩ => show 256 * (k.val / 256) + k.val % 256 = k.val; omega

variable (m : (ℓ : Loc Cert.KernelIdeal.nD Cert.KernelIdeal.τ Cert.KernelIdeal.sig) → Buf (Elt Ideal) ℓ) (c : Dev Cert.KernelIdeal.nD)

/-- The products agree. -/
theorem product_eq : Cert.KernelIdeal.Value.G3 m c = Cert.ReferenceIdeal.Body.G3 (A0 m c) (A1 m c) (A2 m c) := by
  funext i
  obtain ⟨b, s, d, rfl⟩ : ∃ (b : Fin 4) (s : Fin 8192) (d : Fin 1024), i = ix3 b s d := ⟨i 0, i 1, i 2, by
    funext a; match a with | ⟨0, _⟩ => rfl | ⟨1, _⟩ => rfl | ⟨2, _⟩ => rfl⟩
  rw [Cert.KernelIdeal.Body.array3]
  refine (Cert.KernelIdeal.Body.product_at _ _ (place s.val) d).trans (Eq.trans ?_ (Cert.ReferenceIdeal.Body.result1 (A0 m c) (A1 m c) (A2 m c) b s d).symm)
  refine Finset.sum_congr rfl fun k _ => ?_
  have hx : deqAt (xblk (A0 m c) (rowBlk s)) b (ix2 (place s.val) k) = _ := Cert.KernelIdeal.Body.deq_at (grp (xblk (A0 m c) (rowBlk s)) b (grpOf k)) (place s.val) (place k.val)
  have hw : weightAt (A1 m c) (A2 m c) (ix2 d k) = _ := Cert.KernelIdeal.Body.weight_at (A2 m c (ix2 (blkOf d) (grpOf k))) (wblk (A1 m c) (blkOf d) (grpOf k)) (place d.val) (place k.val)
  rw [row_group, group_place] at hx
  rw [wblk_place] at hw
  exact congrArg₂ (· * ·) hx hw

/-- The codes agree. -/
theorem codes_eq : Cert.KernelIdeal.Value.G4 m c = Cert.ReferenceIdeal.Body.G4 (A0 m c) (A1 m c) (A2 m c) := by
  funext i
  obtain ⟨b, s, d, rfl⟩ : ∃ (b : Fin 4) (s : Fin 8192) (d : Fin 3584), i = ix3 b s d := ⟨i 0, i 1, i 2, by
    funext a; match a with | ⟨0, _⟩ => rfl | ⟨1, _⟩ => rfl | ⟨2, _⟩ => rfl⟩
  rw [Cert.KernelIdeal.Body.array4]
  refine Eq.trans ?_ (Cert.ReferenceIdeal.Body.result2 (A0 m c) b s d).symm
  refine (Cert.KernelIdeal.Body.codes_at (grp (xblk (A0 m c) (rowBlk s)) b (grpOf d)) (place s.val) (place d.val)).trans ?_
  rw [row_group, group_place]
  rfl

/-- The scales agree. -/
theorem scales_eq : Cert.KernelIdeal.Value.G5 m c = Cert.ReferenceIdeal.Body.G5 (A0 m c) (A1 m c) (A2 m c) := by
  funext i
  obtain ⟨g, b, s, rfl⟩ : ∃ (g : Fin 14) (b : Fin 4) (s : Fin 8192), i = ix3 g b s := ⟨i 0, i 1, i 2, by
    funext a; match a with | ⟨0, _⟩ => rfl | ⟨1, _⟩ => rfl | ⟨2, _⟩ => rfl⟩
  rw [Cert.KernelIdeal.Body.array5]
  refine Eq.trans ?_ (Cert.ReferenceIdeal.Body.result3 (A0 m c) b s g).symm
  refine (Cert.KernelIdeal.Body.scaleRows_at (grps (xblk (A0 m c) (rowBlk s)) b) g (place s.val)).trans ?_
  have hg : grps (xblk (A0 m c) (rowBlk s)) b g.val = grp (xblk (A0 m c) (rowBlk s)) b g := by
    unfold grps; rw [dif_pos g.isLt]
  rw [hg, row_group]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.ReferenceRun
public import proofs.«01_k».proof.Proof.Equation
public import Idealize.ShloMosaic.Adequacy
public import Idealize.ShloMosaic.Init

@[expose] public section

noncomputable section

namespace Cert.Proof

open Idealize.ShloMosaic Idealize.SL.Sem

/-- From the same arguments the kernel's product, codes and scales are the reference's. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G3 m c, fun c => Cert.KernelIdeal.Value.G4 m c, fun c => Cert.KernelIdeal.Value.G5 m c,
    Cert.KernelIdeal.Value.run m g, ?_⟩
  refine (θ_run Cert.ReferenceIdeal.defs _ _).mono (fun r h c => ?_) (Cert.ReferenceIdeal.Body.run m' g')
  obtain ⟨h0, h1, h2, hk⟩ := h c
  obtain ⟨e0, e1, e2⟩ := hargs c
  rw [e0, e1, e2] at h0 h1 h2
  exact ⟨h0.trans (Cert.Equation.product_eq m c).symm, h1.trans (Cert.Equation.codes_eq m c).symm,
    h2.trans (Cert.Equation.scales_eq m c).symm, hk⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
